-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v10) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S4096x8192 : Shape := ⟨2, ![4096, 8192]⟩
abbrev S1 : Shape := ⟨1, ![1]⟩
abbrev S256x8192 : Shape := ⟨2, ![256, 8192]⟩
abbrev S256x512 : Shape := ⟨2, ![256, 512]⟩
abbrev S6x4096x512 : Shape := ⟨3, ![6, 4096, 512]⟩
abbrev S256x4096 : Shape := ⟨2, ![256, 4096]⟩
abbrev S6 : Shape := ⟨1, ![6]⟩
abbrev S16 : Shape := ⟨1, ![16]⟩
abbrev S_ : Shape := ⟨0, ![]⟩
abbrev S1x4096x512 : Shape := ⟨3, ![1, 4096, 512]⟩
abbrev S4096x512 : Shape := ⟨2, ![4096, 512]⟩
abbrev S256x256 : Shape := ⟨2, ![256, 256]⟩

abbrev nBuf : Space → Nat
  | .hbm => 5
  | .vmem => 6
  | .smem => 2
  | _ => 0

abbrev bufTy : (tb : Table) → Fin (tcTables nBuf tb) → BufTy
  | .hbm, ⟨0, _⟩ => ⟨S4096x256, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S256x8192, .f32⟩
  | .local _ .vmem, ⟨0, _⟩ => ⟨S4096x256, .f32⟩
  | .local _ .vmem, ⟨1, _⟩ => ⟨S256x512, .f32⟩
  | .local _ .vmem, ⟨2, _⟩ => ⟨S256x512, .f32⟩
  | .local _ .vmem, ⟨3, _⟩ => ⟨S6x4096x512, .f32⟩
  | .local _ .vmem, ⟨4, _⟩ => ⟨S4096x256, .fp8e5m2⟩
  | .local _ .vmem, ⟨5, _⟩ => ⟨S256x4096, .fp8e5m2⟩
  | .local _ .smem, ⟨0, _⟩ => ⟨S1, .f32⟩
  | .local _ .smem, ⟨1, _⟩ => ⟨S1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev barrier0 : Sem sig := 0

abbrev nD : Nat := 16
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_45 : BitVec 32 := 1#32
  let v69 : BitVec 32 := Scalar.addi v2 c1_i32_45
  let c16_i32_46 : BitVec 32 := 16#32
  let v70 : BitVec 32 := Scalar.remsi v69 c16_i32_46
  let c1_i32_48 : BitVec 32 := 1#32
  let v71 : BitVec 32 := Scalar.muli v70 c1_i32_48
  let v72 : BitVec 32 := Scalar.addi c0_i32_49 v71
  v72.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_50 : BitVec 32 := 2#32
  let v73 : BitVec 32 := Scalar.addi v2 c2_i32_50
  let c16_i32_51 : BitVec 32 := 16#32
  let v74 : BitVec 32 := Scalar.remsi v73 c16_i32_51
  let c1_i32_53 : BitVec 32 := 1#32
  let v75 : BitVec 32 := Scalar.muli v74 c1_i32_53
  let v76 : BitVec 32 := Scalar.addi c0_i32_54 v75
  v76.toNat
def k0_dev3 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_55 : BitVec 32 := 3#32
  let v77 : BitVec 32 := Scalar.addi v2 c3_i32_55
  let c16_i32_56 : BitVec 32 := 16#32
  let v78 : BitVec 32 := Scalar.remsi v77 c16_i32_56
  let c1_i32_58 : BitVec 32 := 1#32
  let v79 : BitVec 32 := Scalar.muli v78 c1_i32_58
  let v80 : BitVec 32 := Scalar.addi c0_i32_59 v79
  v80.toNat
def k0_dev4 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_60 : BitVec 32 := 4#32
  let v81 : BitVec 32 := Scalar.addi v2 c4_i32_60
  let c16_i32_61 : BitVec 32 := 16#32
  let v82 : BitVec 32 := Scalar.remsi v81 c16_i32_61
  let c1_i32_63 : BitVec 32 := 1#32
  let v83 : BitVec 32 := Scalar.muli v82 c1_i32_63
  let v84 : BitVec 32 := Scalar.addi c0_i32_64 v83
  v84.toNat
def k0_dev5 (d0 : Dev nD) : Nat :=
  let c0_i32_69 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_65 : BitVec 32 := 5#32
  let v85 : BitVec 32 := Scalar.addi v2 c5_i32_65
  let c16_i32_66 : BitVec 32 := 16#32
  let v86 : BitVec 32 := Scalar.remsi v85 c16_i32_66
  let c1_i32_68 : BitVec 32 := 1#32
  let v87 : BitVec 32 := Scalar.muli v86 c1_i32_68
  let v88 : BitVec 32 := Scalar.addi c0_i32_69 v87
  v88.toNat
def k0_dev6 (d0 : Dev nD) : Nat :=
  let c0_i32_74 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_70 : BitVec 32 := 6#32
  let v89 : BitVec 32 := Scalar.addi v2 c6_i32_70
  let c16_i32_71 : BitVec 32 := 16#32
  let v90 : BitVec 32 := Scalar.remsi v89 c16_i32_71
  let c1_i32_73 : BitVec 32 := 1#32
  let v91 : BitVec 32 := Scalar.muli v90 c1_i32_73
  let v92 : BitVec 32 := Scalar.addi c0_i32_74 v91
  v92.toNat
def k0_dev7 (d0 : Dev nD) : Nat :=
  let c0_i32_78 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v93 : BitVec 32 := Scalar.addi v2 c7_i32
  let c16_i32_75 : BitVec 32 := 16#32
  let v94 : BitVec 32 := Scalar.remsi v93 c16_i32_75
  let c1_i32_77 : BitVec 32 := 1#32
  let v95 : BitVec 32 := Scalar.muli v94 c1_i32_77
  let v96 : BitVec 32 := Scalar.addi c0_i32_78 v95
  v96.toNat
def k0_dev8 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v97 : BitVec 32 := Scalar.addi v2 c8_i32
  let c16_i32_79 : BitVec 32 := 16#32
  let v98 : BitVec 32 := Scalar.remsi v97 c16_i32_79
  let c1_i32_81 : BitVec 32 := 1#32
  let v99 : BitVec 32 := Scalar.muli v98 c1_i32_81
  let v100 : BitVec 32 := Scalar.addi c0_i32_82 v99
  v100.toNat
def k0_dev9 (d0 : Dev nD) : Nat :=
  let c0_i32_86 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v101 : BitVec 32 := Scalar.addi v2 c9_i32
  let c16_i32_83 : BitVec 32 := 16#32
  let v102 : BitVec 32 := Scalar.remsi v101 c16_i32_83
  let c1_i32_85 : BitVec 32 := 1#32
  let v103 : BitVec 32 := Scalar.muli v102 c1_i32_85
  let v104 : BitVec 32 := Scalar.addi c0_i32_86 v103
  v104.toNat
def k0_dev10 (d0 : Dev nD) : Nat :=
  let c0_i32_90 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v105 : BitVec 32 := Scalar.addi v2 c10_i32
  let c16_i32_87 : BitVec 32 := 16#32
  let v106 : BitVec 32 := Scalar.remsi v105 c16_i32_87
  let c1_i32_89 : BitVec 32 := 1#32
  let v107 : BitVec 32 := Scalar.muli v106 c1_i32_89
  let v108 : BitVec 32 := Scalar.addi c0_i32_90 v107
  v108.toNat
def k0_dev11 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v109 : BitVec 32 := Scalar.addi v2 c11_i32
  let c16_i32_91 : BitVec 32 := 16#32
  let v110 : BitVec 32 := Scalar.remsi v109 c16_i32_91
  let c1_i32_93 : BitVec 32 := 1#32
  let v111 : BitVec 32 := Scalar.muli v110 c1_i32_93
  let v112 : BitVec 32 := Scalar.addi c0_i32_94 v111
  v112.toNat
def k0_dev12 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v113 : BitVec 32 := Scalar.addi v2 c12_i32
  let c16_i32_95 : BitVec 32 := 16#32
  let v114 : BitVec 32 := Scalar.remsi v113 c16_i32_95
  let c1_i32_97 : BitVec 32 := 1#32
  let v115 : BitVec 32 := Scalar.muli v114 c1_i32_97
  let v116 : BitVec 32 := Scalar.addi c0_i32_98 v115
  v116.toNat
def k0_dev13 (d0 : Dev nD) : Nat :=
  let c0_i32_102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v117 : BitVec 32 := Scalar.addi v2 c13_i32
  let c16_i32_99 : BitVec 32 := 16#32
  let v118 : BitVec 32 := Scalar.remsi v117 c16_i32_99
  let c1_i32_101 : BitVec 32 := 1#32
  let v119 : BitVec 32 := Scalar.muli v118 c1_i32_101
  let v120 : BitVec 32 := Scalar.addi c0_i32_102 v119
  v120.toNat
def k0_dev14 (d0 : Dev nD) : Nat :=
  let c0_i32_106 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v121 : BitVec 32 := Scalar.addi v2 c14_i32
  let c16_i32_103 : BitVec 32 := 16#32
  let v122 : BitVec 32 := Scalar.remsi v121 c16_i32_103
  let c1_i32_105 : BitVec 32 := 1#32
  let v123 : BitVec 32 := Scalar.muli v122 c1_i32_105
  let v124 : BitVec 32 := Scalar.addi c0_i32_106 v123
  v124.toNat
def k0_dev15 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_107 : BitVec 32 := 15#32
  let v125 : BitVec 32 := Scalar.addi v2 c15_i32_107
  let c16_i32_108 : BitVec 32 := 16#32
  let v126 : BitVec 32 := Scalar.remsi v125 c16_i32_108
  let c1_i32_110 : BitVec 32 := 1#32
  let v127 : BitVec 32 := Scalar.muli v126 c1_i32_110
  let v128 : BitVec 32 := Scalar.addi c0_i32_111 v127
  v128.toNat
def k0_off1 (d0 : Dev nD) : Fin 2 → Nat :=
  let c0_i32_124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_119 : BitVec 32 := 256#32
  let v138 : BitVec 32 := Scalar.muli v2 c256_i32_119
  ![0, v138.toNat]
def k0_off2 (d0 : Dev nD) (c1_i32_117 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v135 : BitVec 32 := Scalar.addi v2 c1_i32_117
  let c16_i32_118 : BitVec 32 := 16#32
  let v136 : BitVec 32 := Scalar.remsi v135 c16_i32_118
  let c256_i32 : BitVec 32 := 256#32
  let v137 : BitVec 32 := Scalar.muli v136 c256_i32
  let c0_i32_125 : BitVec 32 := 0#32
  ![v137.toNat, 0]
def k0_dev16 (d0 : Dev nD) : Nat :=
  let c0_i32_123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_117 : BitVec 32 := 1#32
  let v135 : BitVec 32 := Scalar.addi v2 c1_i32_117
  let c16_i32_118 : BitVec 32 := 16#32
  let v136 : BitVec 32 := Scalar.remsi v135 c16_i32_118
  let c1_i32_122 : BitVec 32 := 1#32
  let v139 : BitVec 32 := Scalar.muli v136 c1_i32_122
  let v140 : BitVec 32 := Scalar.addi c0_i32_123 v139
  v140.toNat
def k0_dev17 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_126 : BitVec 32 := 2#32
  let v147 : BitVec 32 := Scalar.addi v2 c2_i32_126
  let c16_i32_127 : BitVec 32 := 16#32
  let v148 : BitVec 32 := Scalar.remsi v147 c16_i32_127
  let c1_i32_132 : BitVec 32 := 1#32
  let v151 : BitVec 32 := Scalar.muli v148 c1_i32_132
  let v152 : BitVec 32 := Scalar.addi c0_i32_133 v151
  v152.toNat
def k0_dev18 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_136 : BitVec 32 := 3#32
  let v159 : BitVec 32 := Scalar.addi v2 c3_i32_136
  let c16_i32_137 : BitVec 32 := 16#32
  let v160 : BitVec 32 := Scalar.remsi v159 c16_i32_137
  let c1_i32_142 : BitVec 32 := 1#32
  let v163 : BitVec 32 := Scalar.muli v160 c1_i32_142
  let v164 : BitVec 32 := Scalar.addi c0_i32_143 v163
  v164.toNat
def k0_dev19 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_146 : BitVec 32 := 4#32
  let v171 : BitVec 32 := Scalar.addi v2 c4_i32_146
  let c16_i32_147 : BitVec 32 := 16#32
  let v172 : BitVec 32 := Scalar.remsi v171 c16_i32_147
  let c1_i32_152 : BitVec 32 := 1#32
  let v175 : BitVec 32 := Scalar.muli v172 c1_i32_152
  let v176 : BitVec 32 := Scalar.addi c0_i32_153 v175
  v176.toNat
def k0_dev20 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_156 : BitVec 32 := 5#32
  let v183 : BitVec 32 := Scalar.addi v2 c5_i32_156
  let c16_i32_157 : BitVec 32 := 16#32
  let v184 : BitVec 32 := Scalar.remsi v183 c16_i32_157
  let c1_i32_162 : BitVec 32 := 1#32
  let v187 : BitVec 32 := Scalar.muli v184 c1_i32_162
  let v188 : BitVec 32 := Scalar.addi c0_i32_163 v187
  v188.toNat
def k0_dev21 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_166 : BitVec 32 := 6#32
  let v195 : BitVec 32 := Scalar.addi v2 c6_i32_166
  let c16_i32_167 : BitVec 32 := 16#32
  let v196 : BitVec 32 := Scalar.remsi v195 c16_i32_167
  let c1_i32_172 : BitVec 32 := 1#32
  let v199 : BitVec 32 := Scalar.muli v196 c1_i32_172
  let v200 : BitVec 32 := Scalar.addi c0_i32_173 v199
  v200.toNat
def k0_dev22 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_176 : BitVec 32 := 7#32
  let v207 : BitVec 32 := Scalar.addi v2 c7_i32_176
  let c16_i32_177 : BitVec 32 := 16#32
  let v208 : BitVec 32 := Scalar.remsi v207 c16_i32_177
  let c1_i32_182 : BitVec 32 := 1#32
  let v211 : BitVec 32 := Scalar.muli v208 c1_i32_182
  let v212 : BitVec 32 := Scalar.addi c0_i32_183 v211
  v212.toNat
def k0_dev23 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_186 : BitVec 32 := 8#32
  let v219 : BitVec 32 := Scalar.addi v2 c8_i32_186
  let c16_i32_187 : BitVec 32 := 16#32
  let v220 : BitVec 32 := Scalar.remsi v219 c16_i32_187
  let c1_i32_192 : BitVec 32 := 1#32
  let v223 : BitVec 32 := Scalar.muli v220 c1_i32_192
  let v224 : BitVec 32 := Scalar.addi c0_i32_193 v223
  v224.toNat
def k0_dev24 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_196 : BitVec 32 := 9#32
  let v231 : BitVec 32 := Scalar.addi v2 c9_i32_196
  let c16_i32_197 : BitVec 32 := 16#32
  let v232 : BitVec 32 := Scalar.remsi v231 c16_i32_197
  let c1_i32_202 : BitVec 32 := 1#32
  let v235 : BitVec 32 := Scalar.muli v232 c1_i32_202
  let v236 : BitVec 32 := Scalar.addi c0_i32_203 v235
  v236.toNat
def k0_dev25 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_206 : BitVec 32 := 10#32
  let v243 : BitVec 32 := Scalar.addi v2 c10_i32_206
  let c16_i32_207 : BitVec 32 := 16#32
  let v244 : BitVec 32 := Scalar.remsi v243 c16_i32_207
  let c1_i32_212 : BitVec 32 := 1#32
  let v247 : BitVec 32 := Scalar.muli v244 c1_i32_212
  let v248 : BitVec 32 := Scalar.addi c0_i32_213 v247
  v248.toNat
def k0_dev26 (d0 : Dev nD) : Nat :=
  let c0_i32_223 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_216 : BitVec 32 := 11#32
  let v255 : BitVec 32 := Scalar.addi v2 c11_i32_216
  let c16_i32_217 : BitVec 32 := 16#32
  let v256 : BitVec 32 := Scalar.remsi v255 c16_i32_217
  let c1_i32_222 : BitVec 32 := 1#32
  let v259 : BitVec 32 := Scalar.muli v256 c1_i32_222
  let v260 : BitVec 32 := Scalar.addi c0_i32_223 v259
  v260.toNat
def k0_dev27 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_226 : BitVec 32 := 12#32
  let v267 : BitVec 32 := Scalar.addi v2 c12_i32_226
  let c16_i32_227 : BitVec 32 := 16#32
  let v268 : BitVec 32 := Scalar.remsi v267 c16_i32_227
  let c1_i32_232 : BitVec 32 := 1#32
  let v271 : BitVec 32 := Scalar.muli v268 c1_i32_232
  let v272 : BitVec 32 := Scalar.addi c0_i32_233 v271
  v272.toNat
def k0_dev28 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_236 : BitVec 32 := 13#32
  let v279 : BitVec 32 := Scalar.addi v2 c13_i32_236
  let c16_i32_237 : BitVec 32 := 16#32
  let v280 : BitVec 32 := Scalar.remsi v279 c16_i32_237
  let c1_i32_242 : BitVec 32 := 1#32
  let v283 : BitVec 32 := Scalar.muli v280 c1_i32_242
  let v284 : BitVec 32 := Scalar.addi c0_i32_243 v283
  v284.toNat
def k0_dev29 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_246 : BitVec 32 := 14#32
  let v291 : BitVec 32 := Scalar.addi v2 c14_i32_246
  let c16_i32_247 : BitVec 32 := 16#32
  let v292 : BitVec 32 := Scalar.remsi v291 c16_i32_247
  let c1_i32_252 : BitVec 32 := 1#32
  let v295 : BitVec 32 := Scalar.muli v292 c1_i32_252
  let v296 : BitVec 32 := Scalar.addi c0_i32_253 v295
  v296.toNat
def k0_dev30 (d0 : Dev nD) : Nat :=
  let c0_i32_263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_256 : BitVec 32 := 15#32
  let v303 : BitVec 32 := Scalar.addi v2 c15_i32_256
  let c16_i32_257 : BitVec 32 := 16#32
  let v304 : BitVec 32 := Scalar.remsi v303 c16_i32_257
  let c1_i32_262 : BitVec 32 := 1#32
  let v307 : BitVec 32 := Scalar.muli v304 c1_i32_262
  let v308 : BitVec 32 := Scalar.addi c0_i32_263 v307
  v308.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_266 : BitVec 32 := 256#32
  let v315 : BitVec 32 := Scalar.muli v2 c256_i32_266
  let v316 : Index := Scalar.indexCast v315
  let c0_267 : Index := 0#32
  ![v316.toNat, 0]
def k0_off4 (d0 : Dev nD) : Fin 2 → Nat :=
  let c0_269 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_268 : BitVec 32 := 256#32
  let v318 : BitVec 32 := Scalar.muli v2 c256_i32_268
  let v319 : Index := Scalar.indexCast v318
  ![0, v319.toNat]
def k0_off5 (d0 : Dev nD) (c15_i32_270 : BitVec 32) : Fin 2 → Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v323 : BitVec 32 := Scalar.addi v2 c15_i32_270
  let c16_i32_271 : BitVec 32 := 16#32
  let v324 : BitVec 32 := Scalar.remsi v323 c16_i32_271
  let c256_i32_273 : BitVec 32 := 256#32
  let v326 : BitVec 32 := Scalar.muli v324 c256_i32_273
  ![0, v326.toNat]
def k0_off6 (i : grid0.Coords) : Fin 1 → Nat :=
  let arg0 : BitVec 32 := BitVec.ofNat 32 (i 0).val
  let c6_i32 : BitVec 32 := 6#32
  let v6 : BitVec 32 := Scalar.remsi arg0 c6_i32
  ![v6.toNat]
def k0_off7 (i : grid0.Coords) : Fin 3 → Nat :=
  let arg0 : BitVec 32 := BitVec.ofNat 32 (i 0).val
  let c6_i32 : BitVec 32 := 6#32
  let v6 : BitVec 32 := Scalar.remsi arg0 c6_i32
  let c0_i32_1 : BitVec 32 := 0#32
  let c0_i32_2 : BitVec 32 := 0#32
  ![v6.toNat, 0, 0]
def k0_off8 (i : grid0.Coords) : Fin 2 → Nat :=
  let c0_i32_3 : BitVec 32 := 0#32
  let arg0 : BitVec 32 := BitVec.ofNat 32 (i 0).val
  let c512_i32 : BitVec 32 := 512#32
  let v7 : BitVec 32 := Scalar.muli arg0 c512_i32
  ![0, v7.toNat]
def k0_off9 (i : grid0.Coords) : Fin 3 → Nat :=
  let arg0 : BitVec 32 := BitVec.ofNat 32 (i 0).val
  let c6_i32 : BitVec 32 := 6#32
  let v6 : BitVec 32 := Scalar.remsi arg0 c6_i32
  let v13 : Index := Scalar.indexCast v6
  let c0 : Index := 0#32
  let c0_4 : Index := 0#32
  ![v13.toNat, 0, 0]
def k0_cond2 (i : grid0.Coords) : BitVec 1 :=
  let arg0 : BitVec 32 := BitVec.ofNat 32 (i 0).val
  let c6_i32_5 : BitVec 32 := 6#32
  let v17 : BitVec 32 := Scalar.addi arg0 c6_i32_5
  let c16_i32_6 : BitVec 32 := 16#32
  let v18 : BitVec 1 := Scalar.cmpi .slt v17 c16_i32_6
  let v19 : BitVec 32 := Scalar.extui v18
  let c0_i32_7 : BitVec 32 := 0#32
  let v20 : BitVec 1 := Scalar.cmpi .ne v19 c0_i32_7
  v20

def k0_off10 (i : grid0.Coords) : Fin 1 → Nat :=
  let arg0 : BitVec 32 := BitVec.ofNat 32 (i 0).val
  let c6_i32 : BitVec 32 := 6#32
  let v6 : BitVec 32 := Scalar.remsi arg0 c6_i32
  ![v6.toNat]
def k0_off11 (i : grid0.Coords) : Fin 3 → Nat :=
  let arg0 : BitVec 32 := BitVec.ofNat 32 (i 0).val
  let c6_i32 : BitVec 32 := 6#32
  let v6 : BitVec 32 := Scalar.remsi arg0 c6_i32
  let c0_i32_19 : BitVec 32 := 0#32
  let c0_i32_20 : BitVec 32 := 0#32
  ![v6.toNat, 0, 0]
def k0_off12 (i : grid0.Coords) : Fin 2 → Nat :=
  let c0_i32_21 : BitVec 32 := 0#32
  let arg0 : BitVec 32 := BitVec.ofNat 32 (i 0).val
  let c6_i32_17 : BitVec 32 := 6#32
  let v38 : BitVec 32 := Scalar.addi arg0 c6_i32_17
  let c512_i32_18 : BitVec 32 := 512#32
  let v39 : BitVec 32 := Scalar.muli v38 c512_i32_18
  ![0, v39.toNat]
def k0_cond3 (i : grid0.Coords) : BitVec 1 :=
  let arg0 : BitVec 32 := BitVec.ofNat 32 (i 0).val
  let c15_i32 : BitVec 32 := 15#32
  let v35 : BitVec 1 := Scalar.cmpi .eq arg0 c15_i32
  let v36 : BitVec 32 := Scalar.extui v35
  let c0_i32_16 : BitVec 32 := 0#32
  let v37 : BitVec 1 := Scalar.cmpi .ne v36 c0_i32_16
  v37

def k0_off13 (d0 : Dev nD) (c1_i32_17 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v38 : BitVec 32 := Scalar.addi v2 c1_i32_17
  let c16_i32_18 : BitVec 32 := 16#32
  let v39 : BitVec 32 := Scalar.remsi v38 c16_i32_18
  let c256_i32 : BitVec 32 := 256#32
  let v40 : BitVec 32 := Scalar.muli v39 c256_i32
  let c0_i32_23 : BitVec 32 := 0#32
  ![v40.toNat, 0]
def k0_off14 (d0 : Dev nD) : Fin 2 → Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_19 : BitVec 32 := 256#32
  let v41 : BitVec 32 := Scalar.muli v2 c256_i32_19
  ![0, v41.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩
abbrev S1x1 : Shape := ⟨2, ![1, 1]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .hbm, ⟨5, _⟩ => ⟨S1, .f32⟩
  | .hbm, ⟨6, _⟩ => ⟨S1x1, .f32⟩
  | .hbm, ⟨7, _⟩ => ⟨S4096x8192, .f32⟩
  | .hbm, ⟨8, _⟩ => ⟨S4096x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x8192, .f32⟩
  | .hbm, ⟨13, _⟩ => ⟨S4096x8192, .f32⟩
  | .hbm, ⟨14, _⟩ => ⟨S_, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Proof.Ideal.Proto.lean ====
/-
The protocol of the distributed matmul over sixteen devices.

Every device holds a 4096 x 256 block of `x`, casts it to fp8, and sends row block `s` of the cast block to device
`s`, into the column block of the gathered matrix that carries the sender's number. A device therefore ends with the
256 x 4096 row block of the cast `x` that its own 256 result rows need. Meanwhile it streams the 4096 x 8192 matrix `w`
from HBM, 512 columns at a time, through a ring of six slots.

The semaphores:

* the barrier semaphore: device `c` gets one unit from each of the fifteen others and waits for all fifteen; a unit
  hands over the column block of the signaller's gathered matrix that `c` will write;
* send semaphore `r` and receive semaphore `r` (`r < 15`): the transfer from `c` to `nb c r`, the device `r + 1`
  further on; the landing hands over the receiver's column block holding the sender's rows, the departure hands the
  sender its row block back;
* slot semaphore `s` (`s < 6`): round `k` is the copy of column block `s + 6 k` of `w` into slot `s`, and hands the
  slot over holding that block, and the block of `w` back.

This module states those cells, what each of them hands over with its contents, and what every device owes at launch.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own and the protocol's -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## The devices: `nb c r` is `r + 1` places after `c`, `pb c r` is `r + 1` places before it -/

set_option backward.proofsInPublic true in
def nb (c : Dev nD) (r : Fin 15) : Dev nD := ⟨(c.val + r.val + 1) % 16, Nat.mod_lt _ (by decide)⟩
set_option backward.proofsInPublic true in
def pb (c : Dev nD) (r : Fin 15) : Dev nD := ⟨(c.val + 15 - r.val) % 16, Nat.mod_lt _ (by decide)⟩

theorem pb_nb (c : Dev nD) (r : Fin 15) : pb (nb c r) r = c := by revert c r; decide
theorem nb_pb (c : Dev nD) (r : Fin 15) : nb (pb c r) r = c := by revert c r; decide
theorem pb_rev (c : Dev nD) (r : Fin 15) : pb c r.rev = nb c r := by revert c r; decide
theorem nb_rev (c : Dev nD) (r : Fin 15) : nb c r.rev = pb c r := by revert c r; decide

/-- For a fixed distance the devices are permuted. -/
def turn (r : Fin 15) : Dev nD ≃ Dev nD := ⟨fun c => nb c r, fun c => pb c r, fun c => pb_nb c r, fun c => nb_pb c r⟩

/-! ## The cells -/

/-- The barrier semaphore, and the own ones: six slots, fifteen sends, fifteen receives and the two that stay idle. -/
abbrev barS : Sem sig := (SemArray.scalar (sig.barrier 0 rfl) : Sems sig S_).sem
set_option backward.proofsInPublic true in
def wS (s : Fin 6) : DmaSem sig := ⟨5 + s.val, by show 5 + s.val < 43; omega⟩
set_option backward.proofsInPublic true in
def sendS (r : Fin 15) : DmaSem sig := ⟨12 + r.val, by show 12 + r.val < 43; omega⟩
set_option backward.proofsInPublic true in
def recvS (r : Fin 15) : DmaSem sig := ⟨28 + r.val, by show 28 + r.val < 43; omega⟩
set_option backward.proofsInPublic true in
def idleS (b : Bool) : DmaSem sig := ⟨if b then 27 else 11, by cases b <;> decide⟩

theorem wS_val (s : Fin 6) : (wS s).val = 5 + s.val := rfl
theorem sendS_val (r : Fin 15) : (sendS r).val = 12 + r.val := rfl
theorem recvS_val (r : Fin 15) : (recvS r).val = 28 + r.val := rfl

abbrev OI : Type := Fin 6 ⊕ (Fin 15 ⊕ (Fin 15 ⊕ Bool))
abbrev osem : OI → SemLoc sig
  | .inl s => .dma (wS s)
  | .inr (.inl r) => .dma (sendS r)
  | .inr (.inr (.inl r)) => .dma (recvS r)
  | .inr (.inr (.inr b)) => .dma (idleS b)

/-- All the cells of one device, the barrier's first. -/
abbrev CI : Type := Unit ⊕ OI
abbrev csem : CI → SemLoc sig
  | .inl _ => .reg barS
  | .inr k => osem k
abbrev kcell (ck : Dev nD × CI) : GSem nD τ sig := ((ck.1 : Thread nD τ), csem ck.2)

abbrev barCell (c : Dev nD) : GSem nD τ sig := ((c : Thread nD τ), .reg barS)
abbrev wCell (c : Dev nD) (s : Fin 6) : GSem nD τ sig := ((c : Thread nD τ), .dma (wS s))
abbrev sendCell (c : Dev nD) (r : Fin 15) : GSem nD τ sig := ((c : Thread nD τ), .dma (sendS r))
abbrev recvCell (c : Dev nD) (r : Fin 15) : GSem nD τ sig := ((c : Thread nD τ), .dma (recvS r))
abbrev idleCell (c : Dev nD) (b : Bool) : GSem nD τ sig := ((c : Thread nD τ), .dma (idleS b))

theorem csem_injective : Function.Injective csem := by decide
theorem kcell_injective : Function.Injective (kcell : Dev nD × CI → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

/-! ## The blocks of the buffers -/

/-- Row block `s` of the cast `x` block, column block `s` of the gathered matrix, slot `s` of the ring and column
    block `b` of `w`, as the transfers address them. -/
theorem row_inb (s : Dev nD) : ∀ a, (![256 * s.val, 0] : Fin 2 → ℕ) a + S256x256.size a ≤ S4096x256.size a := by
  revert s; decide
theorem col_inb (s : Dev nD) : ∀ a, (![0, 256 * s.val] : Fin 2 → ℕ) a + S256x256.size a ≤ S256x4096.size a := by
  revert s; decide
theorem slot_inb (s : Fin 6) : ∀ a, (![s.val, 0, 0] : Fin 3 → ℕ) a + S1x4096x512.size a ≤ S6x4096x512.size a := by
  revert s; decide
theorem wblk_inb (b : Fin 16) : ∀ a, (![0, 512 * b.val] : Fin 2 → ℕ) a + S4096x512.size a ≤ S4096x8192.size a := by
  revert b; decide

abbrev rowR (s : Dev nD) : Rect S4096x256 := Rect.unit (s := S4096x256) ![256 * s.val, 0] S256x256.size (row_inb s)
abbrev colR (s : Dev nD) : Rect S256x4096 := Rect.unit (s := S256x4096) ![0, 256 * s.val] S256x256.size (col_inb s)
abbrev slotR (s : Fin 6) : Rect S6x4096x512 := Rect.unit (s := S6x4096x512) ![s.val, 0, 0] S1x4096x512.size (slot_inb s)
abbrev wblkR (b : Fin 16) : Rect S4096x8192 := Rect.unit (s := S4096x8192) ![0, 512 * b.val] S4096x512.size (wblk_inb b)

abbrev xM : Memref sig .tc .vmem S4096x256 .f32 := Memref.whole cc0_stg0_0
abbrev wM : Memref sig .tc .hbm S4096x8192 .f32 := Memref.whole main_arg1
abbrev wvM : Memref sig .tc .vmem S6x4096x512 .f32 := Memref.whole cc0_scratch0
abbrev xqM : Memref sig .tc .vmem S4096x256 .fp8e5m2 := Memref.whole cc0_scratch1
abbrev xgM : Memref sig .tc .vmem S256x4096 .fp8e5m2 := Memref.whole cc0_scratch2

abbrev rowV (s : Dev nD) : Memref sig .tc .vmem S256x256 .fp8e5m2 := xqM.slice (rowR s) (fun _ => rfl)
abbrev colV (s : Dev nD) : Memref sig .tc .vmem S256x256 .fp8e5m2 := xgM.slice (colR s) (fun _ => rfl)
abbrev slotV (s : Fin 6) : Memref sig .tc .vmem S4096x512 .f32 :=
  (wvM.slice (slotR s) (fun _ => rfl)).squeeze S4096x512 squeezes_S1x4096x512_S4096x512
abbrev wblkV (b : Fin 16) : Memref sig .tc .hbm S4096x512 .f32 := wM.slice (wblkR b) (fun _ => rfl)

/-- What one transfer between devices and one copy of `w` credit. -/
abbrev NX : ℕ := (colV (0 : Dev nD)).view.dmaCredit
abbrev NW : ℕ := (slotV (0 : Fin 6)).view.dmaCredit
theorem NX_pos : 0 < NX := View.dmaCredit_pos _ (by decide)
theorem NW_pos : 0 < NW := View.dmaCredit_pos _ (by decide)

/-! ## Contents -/

/-- Device `c`'s staged block of `x`, and that block cast to fp8, as the kernel's scratch holds it. -/
def xstg (c : Dev nD) : (cc0_stg0_0 : Ref sig .tc).ty.Contents (Elt F) :=
  (win0_0.blk (t0_0 : Fin grid0.N)).view.read (Elt F) ((s₀ m ρ).mem ((c : Thread nD τ).loc main_arg0))
def xq (c : Dev nD) : (cc0_scratch1 : Ref sig .tc).ty.Contents (Elt F) := k0_pay1 (xstg m ρ c)

/-- The gathered matrix of device `c`: column block `s` holds row block `c` of device `s`'s cast block. -/
def xgAll (c : Dev nD) : (cc0_scratch2 : Ref sig .tc).ty.Contents (Elt F) := fun (i : S256x4096.Idx) =>
  xq m ρ ⟨(i 1).val / 256, Nat.div_lt_of_lt_mul (i 1).isLt⟩
    (Shape.pair (d := ![4096, 256])
      ⟨256 * c.val + (i 0).val, by have h0 : (i 0).val < 256 := (i 0).isLt; have hc : c.val < 16 := c.isLt; show _ < 4096; omega⟩
      ⟨(i 1).val % 256, Nat.mod_lt _ (by decide)⟩)

/-- `w` on device `c` at launch, and a ring buffer whose slots all hold column block `b` of it. -/
def wmat (c : Dev nD) : S4096x8192.Idx → Elt F .f32 := (s₀ m ρ).mem ((c : Thread nD τ).loc main_arg1)
def wbuf (c : Dev nD) (b : Fin 16) : (cc0_scratch0 : Ref sig .tc).ty.Contents (Elt F) := fun (i : S6x4096x512.Idx) =>
  wmat m ρ c (Shape.pair (d := ![4096, 8192]) ⟨(i 1).val, (i 1).isLt⟩
    ⟨512 * b.val + (i 2).val, by have h2 : (i 2).val < 512 := (i 2).isLt; show _ < 8192; omega⟩)
/-- Column block `b` of `w` as a load of one slot reads it. -/
def wvec (c : Dev nD) (b : Fin 16) : Vec F S1x4096x512 .f32 := fun j =>
  wmat m ρ c (Shape.pair (d := ![4096, 8192]) ⟨(j 1).val, (j 1).isLt⟩
    ⟨512 * b.val + (j 2).val, by have h2 : (j 2).val < 512 := (j 2).isLt; show _ < 8192; omega⟩)

/-! ## The pieces handed over -/

def rowPts (c s : Dev nD) (f : Buf (Elt F) ((c : Thread nD τ).loc cc0_scratch1)) : sProp 𝕄 :=
  (rowV s).view.loc (c : Thread nD τ) ↦[(rowV s).view.set]{fullShare} f
def colPts (c s : Dev nD) (f : Buf (Elt F) ((c : Thread nD τ).loc cc0_scratch2)) : sProp 𝕄 :=
  (colV s).view.loc (c : Thread nD τ) ↦[(colV s).view.set]{fullShare} f
def slotPts (c : Dev nD) (s : Fin 6) (f : Buf (Elt F) ((c : Thread nD τ).loc cc0_scratch0)) : sProp 𝕄 :=
  (slotV s).view.loc (c : Thread nD τ) ↦[(slotV s).view.set]{fullShare} f
/-- Column block `b` of `w`, at its launch contents. -/
def wBlk (c : Dev nD) (b : Fin 16) : sProp 𝕄 :=
  (wblkV b).view.loc (c : Thread nD τ) ↦[(wblkV b).view.set]{fullShare} (s₀ m ρ).mem ((c : Thread nD τ).loc main_arg1)

omit [FloatOps F] in
instance rowPts_storable (c s : Dev nD) (f) : BI.Storable (upEmb : UEmb _ 𝕄) (rowPts (F := F) c s f) := by unfold rowPts; infer_instance
omit [FloatOps F] in
instance colPts_storable (c s : Dev nD) (f) : BI.Storable (upEmb : UEmb _ 𝕄) (colPts (F := F) c s f) := by unfold colPts; infer_instance
omit [FloatOps F] in
instance slotPts_storable (c : Dev nD) (s : Fin 6) (f) : BI.Storable (upEmb : UEmb _ 𝕄) (slotPts (F := F) c s f) := by unfold slotPts; infer_instance
omit [FloatOps F] in
instance wBlk_storable (c : Dev nD) (b : Fin 16) : BI.Storable (upEmb : UEmb _ 𝕄) (wBlk (F := F) m ρ c b) := by unfold wBlk; infer_instance

/-! ## The schedule -/

/-- The block a slot semaphore's round carries. -/
def blkAt (s k : ℕ) : Fin 16 := Fin.ofNat 16 (s + 6 * k)

/-- The duties by semaphore and round. -/
def dutiesOf : SemLoc sig → ℕ → Finset (Fin 15)
  | .reg _, r => if r = 0 then Finset.univ else ∅
  | .dma i, r =>
    if i.val ≤ 10 then (if 5 ≤ i.val ∧ i.val - 5 + 6 * r < 16 then {0} else ∅)
    else if r = 0 ∧ 12 ≤ i.val ∧ i.val ≠ 27 then {0} else ∅
def amountOf : SemLoc sig → ℕ
  | .reg _ => 1
  | .dma i => if i.val ≤ 10 then NW else NX
/-- What the payer of a duty hands device `c` over it. -/
def payOf (c : Dev nD) : SemLoc sig → ℕ → Fin 15 → sProp 𝕄
  | .reg _, _, d => iprop(∃ f, colPts (pb c d) c f)
  | .dma i, k, _ =>
    if i.val ≤ 10 then iprop(slotPts c (Fin.ofNat 6 (i.val - 5)) (wbuf m ρ c (blkAt (i.val - 5) k)) ∗ wBlk m ρ c (blkAt (i.val - 5) k))
    else if i.val ≤ 26 then rowPts c (nb c (Fin.ofNat 15 (i.val - 12))) (xq m ρ c)
    else colPts c (pb c (Fin.ofNat 15 (i.val - 28))) (xgAll m ρ c)

def rd : Rounds.Schedule (GSem nD τ sig) (Fin 15) 𝕄 where
  duties g r := dutiesOf g.2 r
  unitless _ := False
  amount g _ _ := amountOf g.2
  payload g r d := payOf m ρ g.1.1 g.2 r d
  amount_pos g _ _ _ := by
    rcases g with ⟨t, i | i⟩
    · exact Nat.one_pos
    · show 0 < (if i.val ≤ 10 then NW else NX)
      split
      · exact NW_pos
      · exact NX_pos

instance rd_payload_storable (g : GSem nD τ sig) (r : ℕ) (d : Fin 15) :
    BI.Storable (upEmb : UEmb _ 𝕄) ((rd (F := F) m ρ).payload g r d) := by
  show BI.Storable upEmb (payOf m ρ g.1.1 g.2 r d)
  rcases g with ⟨t, i | i⟩
  · unfold payOf; infer_instance
  · unfold payOf; (repeat' split) <;> infer_instance

section Sched
variable (c : Dev nD)

theorem duties_bar : (rd (F := F) m ρ).duties (barCell c) 0 = Finset.univ := rfl
theorem duties_w (s : Fin 6) (k : ℕ) (h : s.val + 6 * k < 16) : (rd (F := F) m ρ).duties (wCell c s) k = {0} := by
  show (if (wS s).val ≤ 10 then _ else _) = _
  rw [if_pos (show (wS s).val ≤ 10 by rw [wS_val]; omega), if_pos (show 5 ≤ (wS s).val ∧ (wS s).val - 5 + 6 * k < 16 by rw [wS_val]; omega)]
theorem duties_send (r : Fin 15) : (rd (F := F) m ρ).duties (sendCell c r) 0 = {0} := by
  show (if (sendS r).val ≤ 10 then _ else if 0 = 0 ∧ 12 ≤ (sendS r).val ∧ (sendS r).val ≠ 27 then _ else _) = _
  rw [if_neg (show ¬ (sendS r).val ≤ 10 by rw [sendS_val]; omega), if_pos ⟨rfl, show 12 ≤ (sendS r).val ∧ (sendS r).val ≠ 27 by rw [sendS_val]; omega⟩]
theorem duties_recv (r : Fin 15) : (rd (F := F) m ρ).duties (recvCell c r) 0 = {0} := by
  show (if (recvS r).val ≤ 10 then _ else if 0 = 0 ∧ 12 ≤ (recvS r).val ∧ (recvS r).val ≠ 27 then _ else _) = _
  rw [if_neg (show ¬ (recvS r).val ≤ 10 by rw [recvS_val]; omega), if_pos ⟨rfl, show 12 ≤ (recvS r).val ∧ (recvS r).val ≠ 27 by rw [recvS_val]; omega⟩]

/-- No duty remains: on the barrier and the transfers after round 0, on a slot once its blocks are through, on the
    idle semaphores ever. -/
theorem duties_bar_later : ∀ r, 1 ≤ r → (rd (F := F) m ρ).duties (barCell c) r = ∅ := fun r hr => if_neg (by omega)
theorem duties_w_later (s : Fin 6) : ∀ k, (21 - s.val) / 6 ≤ k → (rd (F := F) m ρ).duties (wCell c s) k = ∅ := fun k hk => by
  show (if (wS s).val ≤ 10 then _ else _) = _
  rw [if_pos (show (wS s).val ≤ 10 by rw [wS_val]; omega), if_neg (show ¬ (5 ≤ (wS s).val ∧ (wS s).val - 5 + 6 * k < 16) by rw [wS_val]; omega)]
theorem duties_send_later (r : Fin 15) : ∀ k, 1 ≤ k → (rd (F := F) m ρ).duties (sendCell c r) k = ∅ := fun k hk => by
  show (if (sendS r).val ≤ 10 then _ else _) = _
  rw [if_neg (show ¬ (sendS r).val ≤ 10 by rw [sendS_val]; omega), if_neg (by omega)]
theorem duties_recv_later (r : Fin 15) : ∀ k, 1 ≤ k → (rd (F := F) m ρ).duties (recvCell c r) k = ∅ := fun k hk => by
  show (if (recvS r).val ≤ 10 then _ else _) = _
  rw [if_neg (show ¬ (recvS r).val ≤ 10 by rw [recvS_val]; omega), if_neg (by omega)]
theorem duties_idle (b : Bool) : ∀ k, 0 ≤ k → (rd (F := F) m ρ).duties (idleCell c b) k = ∅ := fun k _ => by
  show (if (idleS b).val ≤ 10 then _ else if k = 0 ∧ 12 ≤ (idleS b).val ∧ (idleS b).val ≠ 27 then _ else _) = _
  rw [if_neg (by cases b <;> decide), if_neg (fun h => by cases b <;> revert h <;> simp [idleS])]

theorem amount_bar (k : ℕ) (d : Fin 15) : (rd (F := F) m ρ).amount (barCell c) k d = 1 := rfl
theorem amount_w (s : Fin 6) (k : ℕ) (d : Fin 15) : (rd (F := F) m ρ).amount (wCell c s) k d = NW :=
  if_pos (show (wS s).val ≤ 10 by rw [wS_val]; omega)
theorem amount_send (r : Fin 15) (k : ℕ) (d : Fin 15) : (rd (F := F) m ρ).amount (sendCell c r) k d = NX :=
  if_neg (show ¬ (sendS r).val ≤ 10 by rw [sendS_val]; omega)
theorem amount_recv (r : Fin 15) (k : ℕ) (d : Fin 15) : (rd (F := F) m ρ).amount (recvCell c r) k d = NX :=
  if_neg (show ¬ (recvS r).val ≤ 10 by rw [recvS_val]; omega)

theorem expect_bar : (rd (F := F) m ρ).expect (barCell c) 0 = 15 := by
  unfold Schedule.expect Schedule.amountOf
  rw [duties_bar, Finset.sum_congr rfl fun d _ => amount_bar m ρ c 0 d, Finset.sum_const, Finset.card_univ, Fintype.card_fin, smul_eq_mul]
theorem expect_w (s : Fin 6) (k : ℕ) (h : s.val + 6 * k < 16) : (rd (F := F) m ρ).expect (wCell c s) k = NW := by
  unfold Schedule.expect Schedule.amountOf; rw [duties_w m ρ c s k h, Finset.sum_singleton, amount_w]
theorem expect_send (r : Fin 15) : (rd (F := F) m ρ).expect (sendCell c r) 0 = NX := by
  unfold Schedule.expect Schedule.amountOf; rw [duties_send, Finset.sum_singleton, amount_send]
theorem expect_recv (r : Fin 15) : (rd (F := F) m ρ).expect (recvCell c r) 0 = NX := by
  unfold Schedule.expect Schedule.amountOf; rw [duties_recv, Finset.sum_singleton, amount_recv]

theorem payload_bar (d : Fin 15) : (rd (F := F) m ρ).payload (barCell c) 0 d = iprop(∃ f, colPts (pb c d) c f) := rfl
theorem payload_w (s : Fin 6) (k : ℕ) (d : Fin 15) : (rd (F := F) m ρ).payload (wCell c s) k d
    = iprop(slotPts c s (wbuf m ρ c (blkAt s k)) ∗ wBlk m ρ c (blkAt s k)) := by
  show (if (wS s).val ≤ 10 then _ else _) = _
  rw [if_pos (show (wS s).val ≤ 10 by rw [wS_val]; omega), show (wS s).val - 5 = s.val from Nat.add_sub_cancel_left _ _,
    show Fin.ofNat 6 s.val = s from Fin.ext (Nat.mod_eq_of_lt s.isLt)]
theorem payload_send (r d : Fin 15) : (rd (F := F) m ρ).payload (sendCell c r) 0 d = rowPts c (nb c r) (xq m ρ c) := by
  show (if (sendS r).val ≤ 10 then _ else if (sendS r).val ≤ 26 then _ else _) = _
  rw [if_neg (show ¬ (sendS r).val ≤ 10 by rw [sendS_val]; omega), if_pos (show (sendS r).val ≤ 26 by rw [sendS_val]; omega),
    show (sendS r).val - 12 = r.val from Nat.add_sub_cancel_left _ _, show Fin.ofNat 15 r.val = r from Fin.ext (Nat.mod_eq_of_lt r.isLt)]
theorem payload_recv (r d : Fin 15) : (rd (F := F) m ρ).payload (recvCell c r) 0 d = colPts c (pb c r) (xgAll m ρ c) := by
  show (if (recvS r).val ≤ 10 then _ else if (recvS r).val ≤ 26 then _ else _) = _
  rw [if_neg (show ¬ (recvS r).val ≤ 10 by rw [recvS_val]; omega), if_neg (show ¬ (recvS r).val ≤ 26 by rw [recvS_val]; omega),
    show (recvS r).val - 28 = r.val from Nat.add_sub_cancel_left _ _, show Fin.ofNat 15 r.val = r from Fin.ext (Nat.mod_eq_of_lt r.isLt)]

/-- What a wait for a whole round brings. -/
theorem rest_bar : bigSep ((rd (F := F) m ρ).duties (barCell c) 0 \ ∅) (fun d => (rd (F := F) m ρ).payload (barCell c) 0 d)
    = bigSep Finset.univ fun d => iprop(∃ f, colPts (F := F) (pb c d) c f) := by
  rw [Finset.sdiff_empty, duties_bar]; rfl
theorem rest_w (s : Fin 6) (k : ℕ) (h : s.val + 6 * k < 16) :
    bigSep ((rd (F := F) m ρ).duties (wCell c s) k \ ∅) (fun d => (rd (F := F) m ρ).payload (wCell c s) k d)
      = iprop(slotPts c s (wbuf m ρ c (blkAt s k)) ∗ wBlk m ρ c (blkAt s k)) := by
  rw [Finset.sdiff_empty, duties_w m ρ c s k h, bigSep_singleton, payload_w]
theorem rest_send (r : Fin 15) : bigSep ((rd (F := F) m ρ).duties (sendCell c r) 0 \ ∅) (fun d => (rd (F := F) m ρ).payload (sendCell c r) 0 d)
    = rowPts c (nb c r) (xq m ρ c) := by
  rw [Finset.sdiff_empty, duties_send, bigSep_singleton, payload_send]
theorem rest_recv (r : Fin 15) : bigSep ((rd (F := F) m ρ).duties (recvCell c r) 0 \ ∅) (fun d => (rd (F := F) m ρ).payload (recvCell c r) 0 d)
    = colPts c (pb c r) (xgAll m ρ c) := by
  rw [Finset.sdiff_empty, duties_recv, bigSep_singleton, payload_recv]

end Sched

/-! ## What every device owes at launch, and the levels -/

/-- What `c` still owes the receive cells from transfer `k` on, and the barrier cells from signal `k` on. -/
def owedR (c : Dev nD) (k : ℕ) : CellTallies nD τ sig Unit :=
  ∑ r ∈ Finset.univ.filter (fun r : Fin 15 => k ≤ r.val), tallyAt (recvCell (nb c r) r) () NX
def owedB (c : Dev nD) (k : ℕ) : CellTallies nD τ sig Unit :=
  ∑ r ∈ Finset.univ.filter (fun r : Fin 15 => k ≤ r.val), tallyAt (barCell (nb c r)) () 1
def O₀ (c : Dev nD) : CellTallies nD τ sig Unit := owedR c 0 + owedB c 0

theorem filter_step (k : Fin 15) : Finset.univ.filter (fun r : Fin 15 => k.val ≤ r.val)
    = insert k (Finset.univ.filter (fun r : Fin 15 => k.val + 1 ≤ r.val)) := by
  ext r; simp only [Finset.mem_filter, Finset.mem_univ, true_and, Finset.mem_insert, Fin.ext_iff]; omega

theorem owedR_step (c : Dev nD) (k : Fin 15) : owedR c k = owedR c (k + 1) + tallyAt (recvCell (nb c k) k) () NX := by
  unfold owedR; rw [filter_step, Finset.sum_insert (by simp), add_comm]
theorem owedB_step (c : Dev nD) (k : Fin 15) : owedB c k = owedB c (k + 1) + tallyAt (barCell (nb c k)) () 1 := by
  unfold owedB; rw [filter_step, Finset.sum_insert (by simp), add_comm]
theorem owedR_end (c : Dev nD) : owedR c 15 = 0 := by
  unfold owedR; rw [Finset.filter_false_of_mem (fun r _ => by omega), Finset.sum_empty]
theorem owedB_end (c : Dev nD) : owedB c 15 = 0 := by
  unfold owedB; rw [Finset.filter_false_of_mem (fun r _ => by omega), Finset.sum_empty]

def L (g : GSem nD τ sig) : Finset Unit := if g.1.2 = .tc then {()} else ∅
/-- Barrier cells at 1, receive cells at 2, everything else at 0. -/
def lvOf : SemLoc sig → ℕ
  | .reg _ => 1
  | .dma i => if 28 ≤ i.val then 2 else 0
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (r : Fin 15) (u : Unit) : lv (recvCell c r) u = 2 := if_pos (show 28 ≤ (recvS r).val by rw [recvS_val]; omega)

theorem sum_apply {I : Type} (s : Finset I) (f : I → CellTallies nD τ sig Unit) (g : GSem nD τ sig) (u : Unit) :
    (∑ i ∈ s, f i) g u = ∑ i ∈ s, f i g u := by
  classical
  induction s using Finset.induction_on with
  | empty => rfl
  | insert a s ha ih => rw [Finset.sum_insert ha, Finset.sum_insert ha, Pi.add_apply, Finsupp.add_apply, ih]

theorem owedR_pos {c : Dev nD} {k : ℕ} {g : GSem nD τ sig} {u : Unit} (h : 0 < owedR c k g u) : ∃ r, g = recvCell (nb c r) r := by
  by_contra hn
  unfold owedR at h
  rw [sum_apply, Finset.sum_eq_zero] at h
  · exact Nat.lt_irrefl 0 h
  · intro r _
    rw [tallyAt_apply, if_neg (fun h' => hn ⟨r, h'.1⟩)]
theorem owedB_pos {c : Dev nD} {k : ℕ} {g : GSem nD τ sig} {u : Unit} (h : 0 < owedB c k g u) : ∃ r, g = barCell (nb c r) := by
  by_contra hn
  unfold owedB at h
  rw [sum_apply, Finset.sum_eq_zero] at h
  · exact Nat.lt_irrefl 0 h
  · intro r _
    rw [tallyAt_apply, if_neg (fun h' => hn ⟨r, h'.1⟩)]
theorem O₀_pos {c : Dev nD} {g : GSem nD τ sig} {u : Unit} (h : 0 < O₀ c g u) :
    (∃ r, g = recvCell (nb c r) r) ∨ ∃ r, g = barCell (nb c r) := by
  unfold O₀ at h
  rw [Pi.add_apply, Finsupp.add_apply] at h
  rcases Nat.eq_zero_or_pos (owedR c 0 g u) with h0 | h0
  · rw [h0, Nat.zero_add] at h; exact .inr (owedB_pos h)
  · exact .inl (owedR_pos h0)

omit [FloatOps F] in
/-- The pipeline's own waits come below everything owed. -/
theorem mayWait_stage (c : Dev nD) (q : DmaSem sig) (hq : q.val < 28) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, rfl⟩ | ⟨r, rfl⟩ <;> exact Finset.mem_singleton_self _)
      (fun p hp => by
        rw [Finset.mem_singleton.mp hp]
        show (if 28 ≤ q.val then 2 else 0) ≤ 0
        rw [if_neg (by omega)])
      (fun g u hg => by
        rcases O₀_pos hg with ⟨r, rfl⟩ | ⟨r, rfl⟩
        · rw [lv_recv]; decide
        · show 0 < 1; decide)
  · rw [MayWait_zero]; iintro -; iempintro

omit [FloatOps F] in
/-- At its barrier wait a device owes receive credits only, and those cells are above its barrier cell. -/
theorem mayWait_bar (c : Dev nD) : (levAts L lv : sProp 𝕄) ⊢ MayWait (c : Thread nD τ) (.reg barS) () (owedR c 0) :=
  MayOwe.of_cut (L := L) (lev := lv) 1 (fun p hp => by rw [Finset.mem_singleton.mp hp, L_tc]; exact Finset.mem_singleton_self _)
    (fun g u hg => by obtain ⟨r, rfl⟩ := owedR_pos hg; exact Finset.mem_singleton_self _)
    (fun p hp => by rw [Finset.mem_singleton.mp hp]; exact le_refl 1)
    (fun g u hg => by obtain ⟨r, rfl⟩ := owedR_pos hg; rw [lv_recv]; decide)

/-! ## The shared records: every cell's invariant and that every cell is at round 0 or later -/

def records (K : Dev nD × CI → ℕ) : sProp 𝕄 :=
  iprop((bigSep Finset.univ fun ck : Dev nD × CI => cellInv ER (rd m ρ) (K ck) (kcell ck))
    ∗ bigSep Finset.univ fun ck : Dev nD × CI => reached ER (kcell ck) 0)

instance records_persistent (K : Dev nD × CI → ℕ) : BI.Persistent (records (F := F) m ρ K) := by unfold records; infer_instance

theorem inv_at (K : Dev nD × CI → ℕ) (ck : Dev nD × CI) : records (F := F) m ρ K ⊢ cellInv ER (rd m ρ) (K ck) (kcell ck) := by
  have h : (bigSep Finset.univ fun ck : Dev nD × CI => (cellInv ER (rd m ρ) (K ck) (kcell ck) : sProp 𝕄))
      ⊢ cellInv ER (rd m ρ) (K ck) (kcell ck) := bigSep_elim (Finset.mem_univ ck)
  unfold records
  iintro ⟨H, -⟩
  iapply h; iexact H
theorem reached_at (K : Dev nD × CI → ℕ) (ck : Dev nD × CI) : records (F := F) m ρ K ⊢ reached ER (kcell ck) 0 := by
  have h : (bigSep Finset.univ fun ck : Dev nD × CI => (reached ER (kcell ck) 0 : sProp 𝕄)) ⊢ reached ER (kcell ck) 0 :=
    bigSep_elim (Finset.mem_univ ck)
  unfold records
  iintro ⟨-, H⟩
  iapply h; iexact H

abbrev iBar : CI := .inl ()
abbrev iW (s : Fin 6) : CI := .inr (.inl s)
abbrev iSend (r : Fin 15) : CI := .inr (.inr (.inl r))
abbrev iRecv (r : Fin 15) : CI := .inr (.inr (.inr (.inl r)))
abbrev iIdle (b : Bool) : CI := .inr (.inr (.inr (.inr b)))

end Cert.KernelIdeal.Hand

end
-- ==== Proof.Ideal.Steps.lean ====
/-
One step of the protocol at a time: a signal, a copy of a block of `w`, a transfer between devices, a wait.

Every lemma takes what a step needs out of a family indexed by the devices, the blocks or the slots and puts what it
brings back in, so that the program is proved by one lemma per operation.
-/
module

public import proofs.«01_k».proof.Proof.Ideal.Proto

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The program `e` on device `c`, to the postcondition `Q`. -/
abbrev run {α : Type} (c : Dev nD) (e : Prog (TpuEff nD τ sig (Elt F) Λ₀ .tc) α) (Q : α → sProp 𝕄) : sProp 𝕄 :=
  wp frame (wpE (defs₀ (F := F)) 𝒱₀ (c : Thread nD τ) none) Set.univ e Q

/-- What device `c` owes, whatever it has waited for. -/
def ow (c : Dev nD) (O : CellTallies nD τ sig Unit) : sProp 𝕄 := iprop(∃ W, owes (c : Thread nD τ) O W)

/-! ## A family in the middle of being worked through -/

omit [FloatOps F] in
/-- One member of a family can be exchanged while the others stay. -/
theorem swap_at {I : Type} [Fintype I] [DecidableEq I] {Φ Ψ : I → sProp 𝕄} (i : I) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (fun j hj => h j (Finset.ne_of_mem_erase hj))]
  iintro ⟨H, HR⟩
  isplitl [H]; · iexact H
  iintro H'
  isplitl [H'] <;> iassumption

omit [FloatOps F] in
/-- The same, the member's two states named. -/
theorem swap_to {I : Type} [Fintype I] [DecidableEq I] {Φ Ψ : I → sProp 𝕄} {A B : sProp 𝕄} (i : I) (hA : Φ i = A) (hB : Ψ i = B)
    (h : ∀ j, j ≠ i → Φ j = Ψ j) : bigSep Finset.univ Φ ⊢ iprop(A ∗ (B -∗ bigSep Finset.univ Ψ)) := by
  subst hA hB; exact swap_at i h

/-- The family whose first `k` members are at `B`, the others still at `A`. -/
def prog {n : ℕ} (k : ℕ) (A B : Fin n → sProp 𝕄) : sProp 𝕄 := bigSep Finset.univ fun r : Fin n => if r.val < k then B r else A r

omit [FloatOps F] in
theorem prog_take {n : ℕ} (k : Fin n) (A B : Fin n → sProp 𝕄) : prog k.val A B ⊢ iprop(A k ∗ (B k -∗ prog (k.val + 1) A B)) := by
  unfold prog
  have h := swap_at (F := F) (Φ := fun r : Fin n => if r.val < k.val then B r else A r)
    (Ψ := fun r : Fin n => if r.val < k.val + 1 then B r else A r) k (fun j hj => by
      have : j.val ≠ k.val := fun h => hj (Fin.ext h)
      by_cases hjk : j.val < k.val
      · rw [if_pos hjk, if_pos (by omega)]
      · rw [if_neg hjk, if_neg (by omega)])
  rw [if_neg (Nat.lt_irrefl _), if_pos (Nat.lt_succ_self _)] at h
  exact h
omit [FloatOps F] in
theorem prog_zero {n : ℕ} (A B : Fin n → sProp 𝕄) : prog 0 A B = bigSep Finset.univ A :=
  bigSep_congr fun r _ => if_neg (Nat.not_lt_zero _)
omit [FloatOps F] in
theorem prog_end {n : ℕ} (A B : Fin n → sProp 𝕄) : prog n A B = bigSep Finset.univ B :=
  bigSep_congr fun r _ => if_pos r.isLt

/-! ## Landings -/

/-- A row block of device `c`'s cast block, written over column block `c` of device `d`'s gathered matrix, is what that
    matrix is to hold there. -/
theorem land_x (c d : Dev nD) (fd : Buf (Elt F) ((d : Thread nD τ).loc cc0_scratch2)) :
    ((colV c).view.loc (d : Thread nD τ) ↦[(colV c).view.set]{fullShare}
        ((colV c).view.write (Elt F) fd ((rowV d).view.read (Elt F) (xq m ρ c)) Finset.univ) : sProp 𝕄)
      = colPts d c (xgAll m ρ d) := by
  unfold colPts
  refine pointsTo_congr fun i hi => ?_
  obtain ⟨x, -, rfl⟩ := Finset.mem_map.mp hi
  rw [View.write_emb_of_mem _ _ (Finset.mem_univ x)]
  show xq m ρ c ((rowV d).view.emb x) = xq m ρ _ _
  have h0 : (x 0).val < 256 := (x 0).isLt
  have h1 : (x 1).val < 256 := (x 1).isLt
  have e0 : (((colV c).view.emb x) 0).val = 0 + 1 * (x 0).val := rfl
  have e1 : (((colV c).view.emb x) 1).val = 256 * c.val + 1 * (x 1).val := rfl
  congr 1
  · exact Fin.ext (show c.val = (((colV c).view.emb x) 1).val / 256 by rw [e1]; omega)
  · refine funext fun a => ?_
    fin_cases a
    · exact Fin.ext (show 256 * d.val + 1 * (x 0).val = 256 * d.val + (((colV c).view.emb x) 0).val by rw [e0]; omega)
    · exact Fin.ext (show 0 + 1 * (x 1).val = (((colV c).view.emb x) 1).val % 256 by rw [e1]; omega)

/-- Column block `b` of `w`, written over slot `s`. -/
theorem land_w (c : Dev nD) (s : Fin 6) (b : Fin 16) (fd : Buf (Elt F) ((c : Thread nD τ).loc cc0_scratch0)) :
    ((slotV s).view.loc (c : Thread nD τ) ↦[(slotV s).view.set]{fullShare}
        ((slotV s).view.write (Elt F) fd ((wblkV b).view.read (Elt F) ((s₀ m ρ).mem ((c : Thread nD τ).loc main_arg1))) Finset.univ) : sProp 𝕄)
      = slotPts c s (wbuf m ρ c b) := by
  unfold slotPts
  refine pointsTo_congr fun i hi => ?_
  obtain ⟨x, -, rfl⟩ := Finset.mem_map.mp hi
  rw [View.write_emb_of_mem _ _ (Finset.mem_univ x)]
  show wmat m ρ c ((wblkV b).view.emb x) = wmat m ρ c _
  have hx : (slotV s).view.emb x = (slotR s).emb (Fin.cons ⟨0, Nat.one_pos⟩ x) :=
    congrArg (slotR s).emb (Shape.reshapeEquiv_cons_one (Shape.Squeezes.numel_eq squeezes_S1x4096x512_S4096x512) x)
  have e1 : (((slotV s).view.emb x) 1).val = 0 + 1 * (x 0).val := by rw [hx]; rfl
  have e2 : (((slotV s).view.emb x) 2).val = 0 + 1 * (x 1).val := by rw [hx]; rfl
  congr 1
  refine funext fun a => ?_
  fin_cases a
  · exact Fin.ext (show 0 + 1 * (x 0).val = (((slotV s).view.emb x) 1).val by rw [e1])
  · exact Fin.ext (show 512 * b.val + 1 * (x 1).val = 512 * b.val + (((slotV s).view.emb x) 2).val by rw [e2]; omega)

/-! ## The views as the program spells them -/

theorem row_eq (s : Dev nD) {o : Fin 2 → ℕ} (inb) (h : o = ![256 * s.val, 0]) :
    xqM.slice (Rect.unit (s := S4096x256) o S256x256.size inb) (fun _ => rfl) = rowV s := by subst h; rfl
theorem col_eq (s : Dev nD) {o : Fin 2 → ℕ} (inb) (h : o = ![0, 256 * s.val]) :
    xgM.slice (Rect.unit (s := S256x4096) o S256x256.size inb) (fun _ => rfl) = colV s := by subst h; rfl
theorem slot_eq (s : Fin 6) {o : Fin 3 → ℕ} (inb) (h : o = ![s.val, 0, 0]) :
    (wvM.slice (Rect.unit (s := S6x4096x512) o S1x4096x512.size inb) (fun _ => rfl)).squeeze S4096x512 squeezes_S1x4096x512_S4096x512
      = slotV s := by subst h; rfl
theorem wblk_eq (b : Fin 16) {o : Fin 2 → ℕ} (inb) (h : o = ![0, 512 * b.val]) :
    wM.slice (Rect.unit (s := S4096x8192) o S4096x512.size inb) (fun _ => rfl) = wblkV b := by subst h; rfl
/-- Semaphore `s` of the slots' array. -/
theorem wsem_eq (s : Fin 6) {o : Fin 1 → ℕ} (inb) (h : o = ![s.val]) :
    ((cc0_scratch3.slice (Rect.unit (s := S6) o S1.size inb)).squeeze S_ squeezes_S1_S_).sem = wS s := by
  subst h; revert s; decide

theorem credit_col (s : Dev nD) : (colV s).view.dmaCredit = NX := rfl
theorem credit_row (s : Dev nD) : (rowV s).view.dmaCredit = NX := rfl
theorem credit_slot (s : Fin 6) : (slotV s).view.dmaCredit = NW := rfl

/-! ## The barrier signals -/

/-- Signal `r` goes to `nb c r`, is that device's duty `r`, and hands over column block `nb c r` of the own gathered
    matrix. -/
def sigA (c : Dev nD) (r : Fin 15) : sProp 𝕄 := iprop(dutyTok ER (barCell (nb c r)) 0 r ∗ ∃ f, colPts (F := F) c (nb c r) f)

theorem step_signal (K : Dev nD × CI → ℕ) (c : Dev nD) (k : Fin 15) (n : Dev nD) (hn : n = nb c k) (k' : ℕ) (hk' : k' = 1)
    {α : Type} {kk : PUnit → Prog (TpuEff nD τ sig (Elt F) Λ₀ .tc) α} {Q : α → sProp 𝕄} {P : sProp 𝕄}
    (h : iprop(records m ρ K ∗ (ow c (owedR c 0 + owedB c (k.val + 1)) ∗ prog (k.val + 1) (sigA (F := F) c) (fun _ => iprop(emp))) ∗ P)
      ⊢ run c (kk ⟨⟩) Q) :
    iprop(records m ρ K ∗ (ow c (owedR c 0 + owedB c k.val) ∗ prog k.val (sigA (F := F) c) (fun _ => iprop(emp))) ∗ P)
      ⊢ run c (.op (.semSignal (n, .tc) barS k') kk) Q := by
  subst hn hk'
  iintro ⟨#HR, ⟨HO, HS⟩, HP⟩
  ihave HS' := (prog_take k _ _) $$ HS
  icases HS' with ⟨HA, HS⟩
  unfold sigA ow
  icases HA with ⟨Ht, %f, Hc⟩
  icases HO with ⟨%W, HO⟩
  iapply (Rounds.wp_signal 𝒱₀ ER (rd m ρ) (c : Thread nD τ) none (dst := (nb c k : Thread nD τ)) (κ := K (nb c k, iBar))
      (d := k) (by rw [duties_bar]; exact Finset.mem_univ _) (amount_bar m ρ (nb c k) 0 k) () (O₀ := owedR c 0 + owedB c k.val) (owedR c 0 + owedB c (k.val + 1))
      (by rw [owedB_step, add_assoc])) $$ [HO Ht Hc]
  · isplitr; · iapply (inv_at m ρ K (nb c k, iBar)); iexact HR
    isplitl [HO]; · iexact HO
    isplitl [Ht]; · iexact Ht
    isplitl [Hc]
    · rw [payload_bar, pb_nb]; iexists f; iexact Hc
    iapply (reached_at m ρ K (nb c k, iBar)); iexact HR
  iintro HO
  iapply h
  isplitr; · iexact HR
  isplitl [HO HS]
  · isplitl [HO]
    · unfold ow; iexists W; iexact HO
    · iapply HS; iempintro
  iexact HP

/-! ## The transfers to the other devices -/

/-- Transfer `r`: row block `nb c r` into column block `c` of device `nb c r`; until the departure is waited for, a
    credit on the own send cell is what remains. -/
def sendA (c : Dev nD) (r : Fin 15) : sProp 𝕄 :=
  iprop(dutyTok ER (sendCell c r) 0 0 ∗ dutyTok ER (recvCell (nb c r) r) 0 0 ∗ rowPts c (nb c r) (xq m ρ c) ∗ ∃ f, colPts (F := F) (nb c r) c f)
def sendB (c : Dev nD) (r : Fin 15) : sProp 𝕄 := cred (tallyAt (sendCell c r) () NX)

theorem step_send (K : Dev nD × CI → ℕ) (c : Dev nD) (k : Fin 15) (n : Dev nD) (hn : n = nb c k)
    {src dst : Memref sig .tc .vmem S256x256 .fp8e5m2} (hs : src = rowV (nb c k)) (hd : dst = colV c)
    {sS sV : DmaSem sig} (hsS : sS = sendS k) (hsV : sV = recvS k)
    {hsc : (dst : Memref sig (Dev.tc n : Thread nD τ).2.kind .vmem S256x256 .fp8e5m2).view.ref.isScScratch = false}
    {hsrc : src.view.WordExact} {hdst : dst.view.WordExact}
    {hsem : DmaTarget.Typed .vmem (.dma sV) (.remote (Dev.tc n : Thread nD τ) dst (.dma sS) hsc)}
    {α : Type} {kk : PUnit → Prog (TpuEff nD τ sig (Elt F) Λ₀ .tc) α} {Q : α → sProp 𝕄} {P : sProp 𝕄}
    (h : iprop(records m ρ K ∗ (ow c (owedR c (k.val + 1)) ∗ prog (k.val + 1) (sendA m ρ c) (sendB (F := F) c)) ∗ P) ⊢ run c (kk ⟨⟩) Q) :
    iprop(records m ρ K ∗ (ow c (owedR c k.val) ∗ prog k.val (sendA m ρ c) (sendB (F := F) c)) ∗ P)
      ⊢ run c (.op (.enqueueDma src (.remote (Dev.tc n : Thread nD τ) dst (.dma sS) hsc) (.dma sV) hsrc hdst hsem) kk) Q := by
  subst hn hs hd hsS hsV
  iintro ⟨#HR, ⟨HO, HS⟩, HP⟩
  ihave HS' := (prog_take k _ _) $$ HS
  icases HS' with ⟨HA, HS⟩
  unfold sendA ow
  icases HA with ⟨HtS, HtV, Hrow, %f, Hcol⟩
  icases HO with ⟨%W, HO⟩
  unfold rowPts colPts
  iapply (Rounds.wp_send_pointsTo 𝒱₀ ER (rd m ρ) (c : Thread nD τ) none (c' := (nb c k : Thread nD τ)) (src := rowV (nb c k)) (dst := colV c) (sS := .dma (sendS k)) (sem := .dma (recvS k)) (κ₁ := K (c, iSend k)) (κ₂ := K (nb c k, iRecv k))
    (r₁ := 0) (r₂ := 0) (d₁ := 0) (d₂ := 0) (fd := f)
    (by rw [duties_send]; exact Finset.mem_singleton_self _) (by rw [duties_recv]; exact Finset.mem_singleton_self _)
    () () NX (credit_col c) (amount_send m ρ c k 0 0) (amount_recv m ρ (nb c k) k 0 0) (owedR c (k.val + 1)) (owedR_step c k) (W := W)
    (by rw [payload_send]; exact BI.Entails.refl _)
    (by rw [payload_recv, pb_nb]; exact Entails.of_eq (land_x m ρ c (nb c k) f))) $$ [HtS HtV Hrow Hcol HO]
  · isplitr; · iapply (inv_at m ρ K (c, iSend k)); iexact HR
    isplitr; · iapply (inv_at m ρ K (nb c k, iRecv k)); iexact HR
    isplitl [Hrow]; · iexact Hrow
    isplitl [Hcol]; · iexact Hcol
    isplitl [HO]; · iexact HO
    isplitl [HtS]; · iexact HtS
    isplitr; · iapply (reached_at m ρ K (c, iSend k)); iexact HR
    isplitl [HtV]; · iexact HtV
    iapply (reached_at m ρ K (nb c k, iRecv k)); iexact HR
  iintro ⟨Hcr, HO⟩
  iapply h
  isplitr; · iexact HR
  isplitl [HO HS Hcr]
  · isplitl [HO]
    · unfold ow; iexists W; iexact HO
    · iapply HS; unfold sendB; iexact Hcr
  iexact HP

/-! ## The waits for landings and departures -/

/-- Before and after the wait for landing `r`, which brings column block `pb c r`. -/
def recvA (c : Dev nD) (r : Fin 15) : sProp 𝕄 := iprop(cred (tallyAt (recvCell c r) () NX) ∗ atPos ER (recvCell c r) 0 ∅ 0)
def recvB (c : Dev nD) (r : Fin 15) : sProp 𝕄 := iprop(atPos ER (recvCell c r) 1 ∅ 0 ∗ colPts c (pb c r) (xgAll m ρ c))
/-- Before and after the wait for departure `r`, which brings row block `nb c r` back. -/
def drainA (c : Dev nD) (r : Fin 15) : sProp 𝕄 := iprop(cred (tallyAt (sendCell c r) () NX) ∗ atPos ER (sendCell c r) 0 ∅ 0)
def drainB (c : Dev nD) (r : Fin 15) : sProp 𝕄 := iprop(atPos ER (sendCell c r) 1 ∅ 0 ∗ rowPts c (nb c r) (xq m ρ c))

theorem step_recv (K : Dev nD × CI → ℕ) (c : Dev nD) (k : Fin 15) {sV : DmaSem sig} (hsV : sV = recvS k)
    {src dst : Memref sig .tc .vmem S256x256 .fp8e5m2} (hcr : dst.view.dmaCredit = NX)
    {hsrc : src.view.WordExact} {hdst : dst.view.WordExact}
    {α : Type} {kk : PUnit → Prog (TpuEff nD τ sig (Elt F) Λ₀ .tc) α} {Q : α → sProp 𝕄} {P : sProp 𝕄}
    (h : iprop(records m ρ K ∗ (ow c 0 ∗ prog (k.val + 1) (recvA (F := F) c) (recvB m ρ c)) ∗ P) ⊢ run c (kk ⟨⟩) Q) :
    iprop(records m ρ K ∗ (ow c 0 ∗ prog k.val (recvA (F := F) c) (recvB m ρ c)) ∗ P)
      ⊢ run c (.op (.waitDma2 sV src dst hsrc hdst) kk) Q := by
  subst hsV
  iintro ⟨#HR, ⟨HO, HS⟩, HP⟩
  ihave HS' := (prog_take k _ _) $$ HS
  icases HS' with ⟨HA, HS⟩
  unfold recvA ow
  icases HA with ⟨Hcr, Hat⟩
  icases HO with ⟨%W, HO⟩
  iapply (Rounds.wp_wait_rest_token 𝒱₀ ER (rd m ρ) (c : Thread nD τ) none (κ := K (c, iRecv k))
      (wpE_waitDma2_eq 𝒱₀ (c : Thread nD τ) none Set.univ) (Set.mem_univ _) () (O := 0) (W := W) (R := 0) (m := 0) (T := ∅)
      (by rw [Nat.zero_add, expect_recv, hcr])) $$ [Hcr HO Hat]
  · isplitr; · iapply (inv_at m ρ K (c, iRecv k)); iexact HR
    isplitl [Hcr]; · rw [hcr]; iexact Hcr
    isplitl [HO]; · iexact HO
    isplitr; · rw [MayWait_zero]; iempintro
    iexact Hat
  iintro ⟨HO, Hat, -, Hpay⟩
  ihave Hp := (Entails.of_eq (rest_recv m ρ c k)) $$ Hpay
  iapply h
  isplitr; · iexact HR
  isplitl [HO HS Hat Hp]
  · isplitl [HO]
    · unfold ow; iexists _; iexact HO
    · iapply HS; unfold recvB; isplitl [Hat] <;> iassumption
  iexact HP

theorem step_drain (K : Dev nD × CI → ℕ) (c : Dev nD) (k : Fin 15) {sS : DmaSem sig} (hsS : sS = sendS k)
    {src dst : Memref sig .tc .vmem S256x256 .fp8e5m2} (hcr : dst.view.dmaCredit = NX)
    {hsrc : src.view.WordExact} {hdst : dst.view.WordExact}
    {α : Type} {kk : PUnit → Prog (TpuEff nD τ sig (Elt F) Λ₀ .tc) α} {Q : α → sProp 𝕄} {P : sProp 𝕄}
    (h : iprop(records m ρ K ∗ (ow c 0 ∗ prog (k.val + 1) (drainA (F := F) c) (drainB m ρ c)) ∗ P) ⊢ run c (kk ⟨⟩) Q) :
    iprop(records m ρ K ∗ (ow c 0 ∗ prog k.val (drainA (F := F) c) (drainB m ρ c)) ∗ P)
      ⊢ run c (.op (.waitDma2 sS src dst hsrc hdst) kk) Q := by
  subst hsS
  iintro ⟨#HR, ⟨HO, HS⟩, HP⟩
  ihave HS' := (prog_take k _ _) $$ HS
  icases HS' with ⟨HA, HS⟩
  unfold drainA ow
  icases HA with ⟨Hcr, Hat⟩
  icases HO with ⟨%W, HO⟩
  iapply (Rounds.wp_wait_rest_token 𝒱₀ ER (rd m ρ) (c : Thread nD τ) none (κ := K (c, iSend k))
      (wpE_waitDma2_eq 𝒱₀ (c : Thread nD τ) none Set.univ) (Set.mem_univ _) () (O := 0) (W := W) (R := 0) (m := 0) (T := ∅)
      (by rw [Nat.zero_add, expect_send, hcr])) $$ [Hcr HO Hat]
  · isplitr; · iapply (inv_at m ρ K (c, iSend k)); iexact HR
    isplitl [Hcr]; · rw [hcr]; iexact Hcr
    isplitl [HO]; · iexact HO
    isplitr; · rw [MayWait_zero]; iempintro
    iexact Hat
  iintro ⟨HO, Hat, -, Hpay⟩
  ihave Hp := (Entails.of_eq (rest_send m ρ c k)) $$ Hpay
  iapply h
  isplitr; · iexact HR
  isplitl [HO HS Hat Hp]
  · isplitl [HO]
    · unfold ow; iexists _; iexact HO
    · iapply HS; unfold drainB; isplitl [Hat] <;> iassumption
  iexact HP

/-- The barrier wait: from every other device its column block for the own rows. -/
theorem step_barrier (K : Dev nD × CI → ℕ) (c : Dev nD) (k' : ℕ) (hk' : k' = 15)
    {α : Type} {kk : PUnit → Prog (TpuEff nD τ sig (Elt F) Λ₀ .tc) α} {Q : α → sProp 𝕄} {P : sProp 𝕄}
    (h : iprop(records m ρ K ∗ (ow c (owedR c 0) ∗ atPos ER (barCell c) 1 ∅ 0 ∗ bigSep Finset.univ fun r : Fin 15 => iprop(∃ f, colPts (F := F) (nb c r) c f)) ∗ P)
      ⊢ run c (kk ⟨⟩) Q) :
    iprop(records m ρ K ∗ (ow c (owedR c 0) ∗ cred (tallyAt (barCell c) () 15) ∗ atPos ER (barCell c) 0 ∅ 0 ∗ levAts L lv) ∗ P)
      ⊢ run c (.op (.semWait barS k') kk) Q := by
  subst hk'
  iintro ⟨#HR, ⟨HO, Hcr, Hat, #Hlev⟩, HP⟩
  unfold ow
  icases HO with ⟨%W, HO⟩
  iapply (Rounds.wp_wait_rest_token 𝒱₀ ER (rd m ρ) (c : Thread nD τ) none (κ := K (c, iBar))
      (wpE_semWait_eq 𝒱₀ (c : Thread nD τ) none Set.univ) (Set.mem_univ _) () (O := owedR c 0) (W := W) (R := 0) (m := 0) (T := ∅)
      (by rw [Nat.zero_add, expect_bar])) $$ [Hcr HO Hat]
  · isplitr; · iapply (inv_at m ρ K (c, iBar)); iexact HR
    isplitl [Hcr]; · iexact Hcr
    isplitl [HO]; · iexact HO
    isplitr; · iapply (mayWait_bar c); iexact Hlev
    iexact Hat
  iintro ⟨HO, Hat, -, Hpay⟩
  ihave Hp := (Entails.of_eq (rest_bar m ρ c)) $$ Hpay
  ihave Hq := (Entails.of_eq (BI.bigSep_univ_equiv (Fin.revPerm (n := 15)) (fun d : Fin 15 => iprop(∃ f, colPts (F := F) (pb c d) c f)))) $$ Hp
  iapply h
  isplitr; · iexact HR
  isplitl [HO Hat Hq]
  · isplitl [HO]
    · unfold ow; iexists _; iexact HO
    isplitl [Hat]; · iexact Hat
    iapply (Entails.of_eq (bigSep_congr (fun r _ => by rw [Fin.revPerm_apply, pb_rev]))) $$ Hq
  iexact HP

/-! ## The ring of the blocks of `w` -/

/-- How many of the blocks before `t` slot `s` has carried. -/
def rnd (t s : ℕ) : ℕ := (t + 5 - s) / 6

set_option backward.proofsInPublic true in
def sl (b : ℕ) : Fin 6 := ⟨b % 6, Nat.mod_lt _ (by decide)⟩

/-- The blocks of `w` when `t` of them have been consumed and `e` copies issued: a block in flight is a credit on its
    slot's cell, a block yet to be issued comes with the duty token of its round. -/
def wB (c : Dev nD) (t e : ℕ) (b : Fin 16) : sProp 𝕄 :=
  if b.val < t then wBlk m ρ c b
  else if b.val < e then cred (tallyAt (wCell c (sl b.val)) () NW)
  else iprop(wBlk m ρ c b ∗ dutyTok ER (wCell c (sl b.val)) (b.val / 6) 0)
/-- The slots then: the position of each slot's cell, and the slots with nothing in flight. -/
def wT (c : Dev nD) (t e : ℕ) (s : Fin 6) : sProp 𝕄 :=
  iprop(atPos ER (wCell c s) (rnd t s.val) ∅ 0 ∗ reached ER (wCell c s) (rnd t s.val)
    ∗ if rnd t s.val < rnd e s.val then iprop(emp) else iprop(∃ f, slotPts (F := F) c s f))
def ring (c : Dev nD) (t e : ℕ) : sProp 𝕄 :=
  iprop((bigSep Finset.univ fun b => wB m ρ c t e b) ∗ bigSep Finset.univ fun s => wT (F := F) c t e s)

theorem step_issue (K : Dev nD × CI → ℕ) (c : Dev nD) (t e : ℕ) (b : Fin 16) (hb : b.val = e) (hte : t ≤ e) (het : e < t + 6)
    {src : Memref sig .tc .hbm S4096x512 .f32} {dst : Memref sig .tc .vmem S4096x512 .f32} {sm : DmaSem sig}
    (hs : src = wblkV b) (hd : dst = slotV (sl e)) (hm : sm = wS (sl e))
    {hsrc : src.view.WordExact} {hdst : dst.view.WordExact} {hsem : DmaTarget.Typed .hbm (.dma sm) (.here dst : DmaTarget nD τ sig Proc.tc .vmem S4096x512 .f32)}
    {α : Type} {kk : PUnit → Prog (TpuEff nD τ sig (Elt F) Λ₀ .tc) α} {Q : α → sProp 𝕄} {P : sProp 𝕄}
    (h : iprop(records m ρ K ∗ ring m ρ c t (e + 1) ∗ P) ⊢ run c (kk ⟨⟩) Q) :
    iprop(records m ρ K ∗ ring m ρ c t e ∗ P)
      ⊢ run c (.op (.enqueueDma src (.here dst) (.dma sm) hsrc hdst hsem) kk) Q := by
  subst hs hd hm
  have hsl : (sl e).val = e % 6 := rfl
  have hblt := b.isLt
  have hslb : sl b.val = sl e := by rw [hb]
  have hr1 : rnd t (sl e).val = e / 6 := by unfold rnd; omega
  have hr2 : rnd e (sl e).val = e / 6 := by unfold rnd; omega
  have hr3 : rnd (e + 1) (sl e).val = e / 6 + 1 := by unfold rnd; omega
  unfold ring
  iintro ⟨#HR, ⟨HB, HT⟩, HP⟩
  ihave HB' := (swap_to (F := F) (Φ := fun b => wB m ρ c t e b) (Ψ := fun b => wB m ρ c t (e + 1) b)
      (A := iprop(wBlk m ρ c b ∗ dutyTok ER (wCell c (sl e)) (e / 6) 0)) (B := cred (tallyAt (wCell c (sl e)) () NW)) b
      (by unfold wB; rw [if_neg (by omega), if_neg (by omega), hslb, hb]) (by unfold wB; rw [if_neg (by omega), if_pos (by omega), hslb]) (fun j hj => by
      have hj' : j.val ≠ b.val := fun h => hj (Fin.ext h)
      unfold wB
      by_cases h1 : j.val < t
      · rw [if_pos h1, if_pos h1]
      · rw [if_neg h1, if_neg h1]
        by_cases h2 : j.val < e
        · rw [if_pos h2, if_pos (by omega)]
        · rw [if_neg h2, if_neg (by omega)])) $$ HB
  ihave HT' := (swap_to (F := F) (Φ := fun s => wT (F := F) c t e s) (Ψ := fun s => wT (F := F) c t (e + 1) s)
      (A := iprop(atPos ER (wCell c (sl e)) (e / 6) ∅ 0 ∗ reached ER (wCell c (sl e)) (e / 6) ∗ ∃ f, slotPts (F := F) c (sl e) f))
      (B := iprop(atPos ER (wCell c (sl e)) (e / 6) ∅ 0 ∗ reached ER (wCell c (sl e)) (e / 6) ∗ emp)) (sl e)
      (by unfold wT; rw [hr1, hr2, if_neg (by omega)]) (by unfold wT; rw [hr1, hr3, if_pos (by omega)]) (fun j hj => by
      have hj' : j.val ≠ e % 6 := fun h => hj (Fin.ext h)
      have hj6 := j.isLt
      unfold wT
      rw [show rnd (e + 1) j.val = rnd e j.val by unfold rnd; omega])) $$ HT
  icases HB' with ⟨HA, HB⟩
  icases HT' with ⟨HS, HT⟩
  icases HA with ⟨Hw, Ht⟩
  icases HS with ⟨Hat, #Hre, %f, Hsl⟩
  have hbk : blkAt (sl e).val (e / 6) = b := Fin.ext (show ((sl e).val + 6 * (e / 6)) % 16 = b.val by omega)
  unfold wBlk slotPts
  iapply (Rounds.wp_copy_pointsTo 𝒱₀ ER (rd m ρ) (c : Thread nD τ) none (src := wblkV b) (dst := slotV (sl e)) (sem := .dma (wS (sl e))) (κ := K (c, iW (sl e))) (r := e / 6) (d := 0) (fd := f)
      (by rw [duties_w m ρ c (sl e) (e / 6) (by omega)]; exact Finset.mem_singleton_self _) () NW (credit_slot (sl e)) (amount_w m ρ c (sl e) (e / 6) 0)
      (by rw [payload_w, hbk]; exact Entails.of_eq (congrArg₂ _ (land_w m ρ c (sl e) b f) rfl))) $$ [Hw Ht Hsl]
  · isplitr; · iapply (inv_at m ρ K (c, iW (sl e))); iexact HR
    isplitl [Hw]; · iexact Hw
    isplitl [Hsl]; · iexact Hsl
    isplitl [Ht]; · iexact Ht
    iexact Hre
  iintro Hcr
  iapply h
  isplitr; · iexact HR
  isplitl [HB HT Hcr Hat]
  · unfold ring
    isplitl [HB Hcr]
    · iapply HB; iexact Hcr
    · iapply HT
      isplitl [Hat]; · iexact Hat
      isplitr; · iexact Hre
      iempintro
  iexact HP

/-- The wait for block `t`: its slot holding it, out of the ring until it is put back. -/
theorem step_block (K : Dev nD × CI → ℕ) (c : Dev nD) (t e : ℕ) (b : Fin 16) (hb : b.val = t) (hte : t < e) (het : e ≤ t + 6)
    {src : Memref sig .tc .hbm S4096x512 .f32} {dst : Memref sig .tc .vmem S4096x512 .f32} {sm : DmaSem sig}
    (hm : sm = wS (sl t)) (hcr : dst.view.dmaCredit = NW) {hsrc : src.view.WordExact} {hdst : dst.view.WordExact}
    {α : Type} {kk : PUnit → Prog (TpuEff nD τ sig (Elt F) Λ₀ .tc) α} {Q : α → sProp 𝕄} {P : sProp 𝕄}
    (h : iprop(records m ρ K ∗ (ow c 0 ∗ slotPts c (sl t) (wbuf m ρ c b) ∗ ((∃ f, slotPts (F := F) c (sl t) f) -∗ ring m ρ c (t + 1) e)) ∗ P)
      ⊢ run c (kk ⟨⟩) Q) :
    iprop(records m ρ K ∗ (ow c 0 ∗ ring m ρ c t e) ∗ P)
      ⊢ run c (.op (.waitDma2 sm src dst hsrc hdst) kk) Q := by
  subst hm
  have hsl : (sl t).val = t % 6 := rfl
  have hblt := b.isLt
  have hslb : sl b.val = sl t := by rw [hb]
  have hr1 : rnd t (sl t).val = t / 6 := by unfold rnd; omega
  have hr2 : rnd e (sl t).val = t / 6 + 1 := by unfold rnd; omega
  have hr3 : rnd (t + 1) (sl t).val = t / 6 + 1 := by unfold rnd; omega
  have hbk : blkAt (sl t).val (t / 6) = b := Fin.ext (show ((sl t).val + 6 * (t / 6)) % 16 = b.val by omega)
  unfold ring
  iintro ⟨#HR, ⟨HO, HB, HT⟩, HP⟩
  ihave HB' := (swap_to (F := F) (Φ := fun b => wB m ρ c t e b) (Ψ := fun b => wB m ρ c (t + 1) e b)
      (A := cred (tallyAt (wCell c (sl t)) () NW)) (B := wBlk m ρ c b) b
      (by unfold wB; rw [if_neg (by omega), if_pos (by omega), hslb]) (by unfold wB; rw [if_pos (by omega)]) (fun j hj => by
      have hj' : j.val ≠ b.val := fun h => hj (Fin.ext h)
      unfold wB
      by_cases h1 : j.val < t
      · rw [if_pos h1, if_pos (show j.val < t + 1 by omega)]
      · rw [if_neg h1, if_neg (show ¬ j.val < t + 1 by omega)])) $$ HB
  ihave HT' := (swap_to (F := F) (Φ := fun s => wT (F := F) c t e s) (Ψ := fun s => wT (F := F) c (t + 1) e s)
      (A := iprop(atPos ER (wCell c (sl t)) (t / 6) ∅ 0 ∗ reached ER (wCell c (sl t)) (t / 6) ∗ emp))
      (B := iprop(atPos ER (wCell c (sl t)) (t / 6 + 1) ∅ 0 ∗ reached ER (wCell c (sl t)) (t / 6 + 1) ∗ ∃ f, slotPts (F := F) c (sl t) f)) (sl t)
      (by unfold wT; rw [hr1, hr2, if_pos (by omega)]) (by unfold wT; rw [hr2, hr3, if_neg (by omega)]) (fun j hj => by
      have hj' : j.val ≠ t % 6 := fun h => hj (Fin.ext h)
      have hj6 := j.isLt
      unfold wT
      rw [show rnd (t + 1) j.val = rnd t j.val by unfold rnd; omega])) $$ HT
  icases HB' with ⟨HA, HB⟩
  icases HT' with ⟨HS, HT⟩
  icases HS with ⟨Hat, -, -⟩
  unfold ow
  icases HO with ⟨%W, HO⟩
  iapply (Rounds.wp_wait_rest_token 𝒱₀ ER (rd m ρ) (c : Thread nD τ) none (κ := K (c, iW (sl t)))
      (wpE_waitDma2_eq 𝒱₀ (c : Thread nD τ) none Set.univ) (Set.mem_univ _) () (O := 0) (W := W) (R := t / 6) (m := 0) (T := ∅)
      (by rw [Nat.zero_add, expect_w m ρ c (sl t) (t / 6) (by omega), hcr])) $$ [HA HO Hat]
  · isplitr; · iapply (inv_at m ρ K (c, iW (sl t))); iexact HR
    isplitl [HA]; · rw [hcr]; iexact HA
    isplitl [HO]; · iexact HO
    isplitr; · rw [MayWait_zero]; iempintro
    iexact Hat
  iintro ⟨HO, Hat, Hre, Hpay⟩
  ihave Hp := (Entails.of_eq (rest_w m ρ c (sl t) (t / 6) (by omega))) $$ Hpay
  rw [hbk]
  icases Hp with ⟨Hsl, Hw⟩
  iapply h
  isplitr; · iexact HR
  isplitl [HO Hsl HB HT Hat Hre Hw]
  · isplitl [HO]
    · unfold ow; iexists _; iexact HO
    isplitl [Hsl]; · iexact Hsl
    iintro Hf
    unfold ring
    isplitl [HB Hw]
    · iapply HB; iexact Hw
    · iapply HT
      isplitl [Hat]; · iexact Hat
      isplitl [Hre]; · iexact Hre
      iexact Hf
  iexact HP

end Cert.KernelIdeal.Hand

end
-- ==== Proof.Ideal.State.lean ====
/-
What a device holds between the points of its grid: the buffers cut into the pieces that the protocol hands over, the
state before the first point, between points and after the last, and the pipeline's proof data with the contents of every
block of results.
-/
module

public import proofs.«01_k».proof.Proof.Ideal.Steps
public import Idealize.ShloMosaic.Lib.Pipeline.FrameBody

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers in pieces -/

abbrev rowSet (s : Dev nD) : Finset S4096x256.Idx := (rowR s).set
theorem row_set (s : Dev nD) : (rowV s).view.set = rowSet s :=
  View.set_slice_whole cc0_scratch1 (rowR s)
theorem rows_disjoint (s s' : Dev nD) (h : s ≠ s') : Disjoint (rowSet s) (rowSet s') :=
  Ring.lead_disjoint (s := S4096x256) (NB := 16) (0 : Fin 2) 256 (fun s => (![256 * s.val, 0] : Fin 2 → ℕ)) S256x256.size row_inb (fun _ => rfl) rfl s s' h
theorem rows_cover : Finset.univ.biUnion rowSet = Finset.univ :=
  Ring.lead_cover (s := S4096x256) (NB := 16) (0 : Fin 2) 256 (fun s => (![256 * s.val, 0] : Fin 2 → ℕ)) S256x256.size row_inb (fun _ => rfl)
    (fun s a ha => by fin_cases a <;> first | rfl | exact absurd rfl ha) rfl
    (fun a ha => by fin_cases a <;> first | rfl | exact absurd rfl ha) rfl
abbrev colSet (s : Dev nD) : Finset S256x4096.Idx := (colR s).set
theorem col_set (s : Dev nD) : (colV s).view.set = colSet s :=
  View.set_slice_whole cc0_scratch2 (colR s)
theorem cols_disjoint (s s' : Dev nD) (h : s ≠ s') : Disjoint (colSet s) (colSet s') :=
  Ring.lead_disjoint (s := S256x4096) (NB := 16) (1 : Fin 2) 256 (fun s => (![0, 256 * s.val] : Fin 2 → ℕ)) S256x256.size col_inb (fun _ => rfl) rfl s s' h
theorem cols_cover : Finset.univ.biUnion colSet = Finset.univ :=
  Ring.lead_cover (s := S256x4096) (NB := 16) (1 : Fin 2) 256 (fun s => (![0, 256 * s.val] : Fin 2 → ℕ)) S256x256.size col_inb (fun _ => rfl)
    (fun s a ha => by fin_cases a <;> first | rfl | exact absurd rfl ha) rfl
    (fun a ha => by fin_cases a <;> first | rfl | exact absurd rfl ha) rfl
abbrev slotSet (s : Fin 6) : Finset S6x4096x512.Idx := (slotR s).set
theorem slot_set (s : Fin 6) : (slotV s).view.set = slotSet s :=
  (View.set_reshape (v := (View.whole cc0_scratch0).slice (slotR s)) _).trans (View.set_slice_whole cc0_scratch0 (slotR s))
theorem slots_disjoint (s s' : Fin 6) (h : s ≠ s') : Disjoint (slotSet s) (slotSet s') :=
  Ring.lead_disjoint (s := S6x4096x512) (NB := 6) (0 : Fin 3) 1 (fun s => (![s.val, 0, 0] : Fin 3 → ℕ)) S1x4096x512.size slot_inb (fun s => (Nat.one_mul _).symm) rfl s s' h
theorem slots_cover : Finset.univ.biUnion slotSet = Finset.univ :=
  Ring.lead_cover (s := S6x4096x512) (NB := 6) (0 : Fin 3) 1 (fun s => (![s.val, 0, 0] : Fin 3 → ℕ)) S1x4096x512.size slot_inb (fun s => (Nat.one_mul _).symm)
    (fun s a ha => by fin_cases a <;> first | rfl | exact absurd rfl ha) rfl
    (fun a ha => by fin_cases a <;> first | rfl | exact absurd rfl ha) rfl
abbrev wblkSet (s : Fin 16) : Finset S4096x8192.Idx := (wblkR s).set
theorem wblk_set (s : Fin 16) : (wblkV s).view.set = wblkSet s :=
  View.set_slice_whole main_arg1 (wblkR s)
theorem wblks_disjoint (s s' : Fin 16) (h : s ≠ s') : Disjoint (wblkSet s) (wblkSet s') :=
  Ring.lead_disjoint (s := S4096x8192) (NB := 16) (1 : Fin 2) 512 (fun s => (![0, 512 * s.val] : Fin 2 → ℕ)) S4096x512.size wblk_inb (fun _ => rfl) rfl s s' h
theorem wblks_cover : Finset.univ.biUnion wblkSet = Finset.univ :=
  Ring.lead_cover (s := S4096x8192) (NB := 16) (1 : Fin 2) 512 (fun s => (![0, 512 * s.val] : Fin 2 → ℕ)) S4096x512.size wblk_inb (fun _ => rfl)
    (fun s a ha => by fin_cases a <;> first | rfl | exact absurd rfl ha) rfl
    (fun a ha => by fin_cases a <;> first | rfl | exact absurd rfl ha) rfl

/-- The cast block is its sixteen row blocks, the gathered matrix its sixteen column blocks, the ring buffer its six
    slots, `w` its sixteen column blocks. -/
theorem rowPts_eq (c : Dev nD) (s : Dev nD) (f : Buf (Elt F) ((c : Thread nD τ).loc cc0_scratch1)) :
    rowPts c s f = (((c : Thread nD τ).loc cc0_scratch1) ↦[rowSet s]{fullShare} f : sProp 𝕄) := by unfold rowPts; rw [row_set]
theorem rows_split (c : Dev nD) (f : Buf (Elt F) ((c : Thread nD τ).loc cc0_scratch1)) :
    (((c : Thread nD τ).loc cc0_scratch1) ↦{fullShare} f : sProp 𝕄) = bigSep Finset.univ fun s : Dev nD => rowPts c s f :=
  (Ring.pointsTo_blocks (Ix := Unit) (Name := ℕ) (U := UU) (Lvl := ℕ) (ℓ := (c : Thread nD τ).loc cc0_scratch1) rowSet rows_disjoint rows_cover f).trans
    (bigSep_congr fun s _ => (rowPts_eq c s f).symm)
theorem colPts_eq (c : Dev nD) (s : Dev nD) (f : Buf (Elt F) ((c : Thread nD τ).loc cc0_scratch2)) :
    colPts c s f = (((c : Thread nD τ).loc cc0_scratch2) ↦[colSet s]{fullShare} f : sProp 𝕄) := by unfold colPts; rw [col_set]
theorem cols_split (c : Dev nD) (f : Buf (Elt F) ((c : Thread nD τ).loc cc0_scratch2)) :
    (((c : Thread nD τ).loc cc0_scratch2) ↦{fullShare} f : sProp 𝕄) = bigSep Finset.univ fun s : Dev nD => colPts c s f :=
  (Ring.pointsTo_blocks (Ix := Unit) (Name := ℕ) (U := UU) (Lvl := ℕ) (ℓ := (c : Thread nD τ).loc cc0_scratch2) colSet cols_disjoint cols_cover f).trans
    (bigSep_congr fun s _ => (colPts_eq c s f).symm)
theorem slotPts_eq (c : Dev nD) (s : Fin 6) (f : Buf (Elt F) ((c : Thread nD τ).loc cc0_scratch0)) :
    slotPts c s f = (((c : Thread nD τ).loc cc0_scratch0) ↦[slotSet s]{fullShare} f : sProp 𝕄) := by unfold slotPts; rw [slot_set]
theorem slots_split (c : Dev nD) (f : Buf (Elt F) ((c : Thread nD τ).loc cc0_scratch0)) :
    (((c : Thread nD τ).loc cc0_scratch0) ↦{fullShare} f : sProp 𝕄) = bigSep Finset.univ fun s : Fin 6 => slotPts c s f :=
  (Ring.pointsTo_blocks (Ix := Unit) (Name := ℕ) (U := UU) (Lvl := ℕ) (ℓ := (c : Thread nD τ).loc cc0_scratch0) slotSet slots_disjoint slots_cover f).trans
    (bigSep_congr fun s _ => (slotPts_eq c s f).symm)
theorem slots_join (c : Dev nD) :
    (bigSep Finset.univ fun s : Fin 6 => iprop(∃ f, slotPts (F := F) c s f)) ⊢ (iprop(∃ f, ((c : Thread nD τ).loc cc0_scratch0) ↦{fullShare} f) : sProp 𝕄) :=
  (Entails.of_eq (bigSep_congr fun s _ => by simp only [slotPts_eq])).trans
    (Ring.pointsTo_blocks_join_exists (Ix := Unit) (Name := ℕ) (U := UU) (Lvl := ℕ) (ℓ := (c : Thread nD τ).loc cc0_scratch0) (q := fullShare) slotSet slots_disjoint slots_cover (fun _ => Classical.arbitrary _))
theorem wblks_split (c : Dev nD) :
    (((c : Thread nD τ).loc main_arg1) ↦{fullShare} (s₀ m ρ).mem ((c : Thread nD τ).loc main_arg1) : sProp 𝕄)
      = bigSep Finset.univ fun b : Fin 16 => wBlk m ρ c b :=
  (Ring.pointsTo_blocks (Ix := Unit) (Name := ℕ) (U := UU) (Lvl := ℕ) (ℓ := (c : Thread nD τ).loc main_arg1) wblkSet wblks_disjoint wblks_cover _).trans
    (bigSep_congr fun s _ => by unfold wBlk; rw [wblk_set])

/-- All devices are `c` and the fifteen after it, or `c` and the fifteen before it. -/
def afterE (c : Dev nD) : Unit ⊕ Fin 15 ≃ Dev nD :=
  Equiv.ofBijective (Sum.elim (fun _ => c) (nb c)) ((Fintype.bijective_iff_injective_and_card _).mpr ⟨by revert c; decide, rfl⟩)
def beforeE (c : Dev nD) : Unit ⊕ Fin 15 ≃ Dev nD :=
  Equiv.ofBijective (Sum.elim (fun _ => c) (pb c)) ((Fintype.bijective_iff_injective_and_card _).mpr ⟨by revert c; decide, rfl⟩)

omit [FloatOps F] in
theorem devs_after (c : Dev nD) (Φ : Dev nD → sProp 𝕄) : bigSep Finset.univ Φ = iprop(Φ c ∗ bigSep Finset.univ fun r : Fin 15 => Φ (nb c r)) := by
  rw [BI.bigSep_univ_equiv (afterE c) Φ, BI.bigSep_univ_sum, Finset.univ_unique, bigSep_singleton]; rfl
omit [FloatOps F] in
theorem devs_before (c : Dev nD) (Φ : Dev nD → sProp 𝕄) : bigSep Finset.univ Φ = iprop(Φ c ∗ bigSep Finset.univ fun r : Fin 15 => Φ (pb c r)) := by
  rw [BI.bigSep_univ_equiv (beforeE c) Φ, BI.bigSep_univ_sum, Finset.univ_unique, bigSep_singleton]; rfl

/-! ## The proof data of the pipeline -/

/-- The grid point's block of `w`. -/
def blkNo (t : Fin cfg0.N) : Fin 16 := ⟨t.val, lt_of_lt_of_eq t.isLt N_0⟩

/-- The two scales as staged, and the block of results a point writes. -/
def sxstg (c : Dev nD) : (cc0_stg1_0 : Ref sig .tc).ty.Contents (Elt F) :=
  (win0_1.blk (t0_0 : Fin grid0.N)).view.read (Elt F) ((s₀ m ρ).mem ((c : Thread nD τ).loc main_arg2))
def systg (c : Dev nD) : (cc0_stg2_0 : Ref sig .tc).ty.Contents (Elt F) :=
  (win0_2.blk (t0_0 : Fin grid0.N)).view.read (Elt F) ((s₀ m ρ).mem ((c : Thread nD τ).loc main_arg3))
def zero1 : S1.Idx := fun a => ⟨0, by fin_cases a; exact Nat.one_pos⟩
def outAt (c : Dev nD) (b : Fin 16) : (cc0_stg3_0 : Ref sig .tc).ty.Contents (Elt F) :=
  k0_pay3 (wvec m ρ c b) (xgAll m ρ c) (sxstg m ρ c zero1) (systg m ρ c zero1)

/-- What device `c` starts from. -/
def tokens (c : Dev nD) : sProp 𝕄 :=
  iprop((bigSep Finset.univ fun r : Fin 15 => dutyTok ER (barCell (nb c r)) 0 r)
    ∗ (bigSep Finset.univ fun b : Fin 16 => dutyTok ER (wCell c (sl b.val)) (b.val / 6) 0)
    ∗ (bigSep Finset.univ fun r : Fin 15 => dutyTok ER (sendCell c r) 0 0)
    ∗ bigSep Finset.univ fun r : Fin 15 => dutyTok ER (recvCell (nb c r) r) 0 0)
def places (c : Dev nD) : sProp 𝕄 := bigSep Finset.univ fun k : CI => atPos ER (kcell (c, k)) 0 ∅ 0
def credits (c : Dev nD) : sProp 𝕄 :=
  iprop(cred (tallyAt (barCell c) () 15) ∗ bigSep Finset.univ fun r : Fin 15 => cred (tallyAt (recvCell c r) () NX))
def ghost (c : Dev nD) : sProp 𝕄 := iprop(∃ K, records m ρ K ∗ places (F := F) c ∗ tokens (F := F) c)
def wWhole (c : Dev nD) : sProp 𝕄 := ((c : Thread nD τ).loc main_arg1) ↦{fullShare} (s₀ m ρ).mem ((c : Thread nD τ).loc main_arg1)
def start (c : Dev nD) : sProp 𝕄 := iprop(ghost m ρ c ∗ levAts L lv ∗ credits (F := F) c ∗ wWhole m ρ c)
def scratches (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)

/-- What device `c` keeps unchanged from the end of the exchange to its last point: its gathered matrix complete, its own
    row block, the departures to be waited for, the positions passed. -/
def kept (c : Dev nD) : sProp 𝕄 :=
  iprop(((c : Thread nD τ).loc cc0_scratch2 ↦{fullShare} xgAll m ρ c)
    ∗ rowPts c c (xq m ρ c) ∗ prog 0 (drainA (F := F) c) (drainB m ρ c)
    ∗ (bigSep Finset.univ fun r : Fin 15 => atPos ER (recvCell c r) 1 ∅ 0) ∗ atPos ER (barCell c) 1 ∅ 0
    ∗ bigSep Finset.univ fun b : Bool => atPos ER (idleCell c b) 0 ∅ 0)
/-- Between points: `t` blocks of `w` consumed, those up to six further on issued. -/
def mid (c : Dev nD) (t : ℕ) : sProp 𝕄 := iprop(∃ K, records m ρ K ∗ ring m ρ c t (min 16 (t + 6)) ∗ kept m ρ c)
/-- At the end: every counter of the device zero and its buffers whole. -/
def finish (c : Dev nD) : sProp 𝕄 :=
  iprop(semVal (barCell c) 0 ∗ (bigSep Finset.univ fun k : OI => semVal ((c : Thread nD τ), osem k) 0) ∗ wWhole m ρ c ∗ scratches (F := F) c)

def inv (c : Dev nD) (t : ℕ) : sProp 𝕄 :=
  if t = 0 then iprop(start m ρ c ∗ scratches (F := F) c) else if t = 16 then finish m ρ c else mid m ρ c t

def dats (_ : Fin 1) (c : Dev nD) : Dat τ (Elt F) Unit ℕ UU ℕ cfg0 c where
  A w := (s₀ m ρ).mem ((cfg0.win w).arr.view.loc (c : Thread nD τ))
  after w t := match w with
    | ⟨0, _⟩ => xstg m ρ c
    | ⟨1, _⟩ => sxstg m ρ c
    | ⟨2, _⟩ => systg m ρ c
    | ⟨3, _⟩ => outAt m ρ c (blkNo t)
  Φ t := inv m ρ c t.val
  q _ := fullShare
  owed t := if t.val = 0 then O₀ c else 0

/-- What the input windows' staging buffers hold at every point. -/
theorem before_0 (c : Dev nD) (t : Fin cfg0.N) (d) : (dats m ρ 0 c).before (0 : Fin 4) t d = xstg m ρ c :=
  ((dats m ρ 0 c).before_in_eq_fetched 0 rfl (fun _ => rfl) (fun _ _ _ => rfl) (fun _ => rfl) t d).trans rfl
theorem before_1 (c : Dev nD) (t : Fin cfg0.N) (d) : (dats m ρ 0 c).before (1 : Fin 4) t d = sxstg m ρ c :=
  ((dats m ρ 0 c).before_in_eq_fetched 1 rfl (fun _ => rfl) (fun _ _ _ => rfl) (fun _ => rfl) t d).trans rfl
theorem before_2 (c : Dev nD) (t : Fin cfg0.N) (d) : (dats m ρ 0 c).before (2 : Fin 4) t d = systg m ρ c :=
  ((dats m ρ 0 c).before_in_eq_fetched 2 rfl (fun _ => rfl) (fun _ _ _ => rfl) (fun _ => rfl) t d).trans rfl

/-- One slot before any copy and after all of them. -/
theorem slot_start (c : Dev nD) (f) (s : Fin 6) :
    iprop(atPos ER (wCell c s) 0 ∅ 0 ∗ reached ER (wCell c s) 0 ∗ slotPts c s f) ⊢ wT (F := F) c 0 0 s := by
  have h0 : rnd 0 s.val = 0 := by have hs := s.isLt; unfold rnd; omega
  have e : wT (F := F) c 0 0 s = iprop(atPos ER (wCell c s) 0 ∅ 0 ∗ reached ER (wCell c s) 0 ∗ ∃ f, slotPts c s f) := by
    unfold wT; rw [h0, if_neg (Nat.lt_irrefl 0)]
  refine BIBase.Entails.trans ?_ (Entails.of_eq e.symm)
  iintro ⟨H1, H2, H3⟩
  isplitl [H1]; · iexact H1
  isplitl [H2]; · iexact H2
  iexists f; iexact H3
theorem slot_end (c : Dev nD) (s : Fin 6) :
    wT (F := F) c 16 16 s ⊢ iprop((∃ f, slotPts (F := F) c s f) ∗ atPos ER (wCell c s) ((21 - s.val) / 6) ∅ 0) := by
  have e : wT (F := F) c 16 16 s
      = iprop(atPos ER (wCell c s) ((21 - s.val) / 6) ∅ 0 ∗ reached ER (wCell c s) ((21 - s.val) / 6) ∗ ∃ f, slotPts c s f) := by
    unfold wT; rw [if_neg (Nat.lt_irrefl _)]; rfl
  refine BIBase.Entails.trans (Entails.of_eq e) ?_
  iintro ⟨H1, -, H2⟩
  isplitl [H2]; · iexact H2
  iexact H1

/-- The first round of every slot's cell is recorded. -/
theorem slots_reached (c : Dev nD) (K : Dev nD × CI → ℕ) :
    records m ρ K ⊢ bigSep Finset.univ fun s : Fin 6 => (reached ER (wCell c s) 0 : sProp 𝕄) :=
  BIBase.Entails.trans (bigSep_of_persistent Finset.univ (records m ρ K)) (bigSep_mono fun s _ => reached_at m ρ K (c, iW s))

/-- The ring before any copy and after all of them. -/
theorem ring_start (c : Dev nD) (K : Dev nD × CI → ℕ) :
    iprop(records m ρ K ∗ wWhole m ρ c ∗ (∃ f, ((c : Thread nD τ).loc cc0_scratch0) ↦{fullShare} f)
        ∗ (bigSep Finset.univ fun b : Fin 16 => dutyTok ER (wCell c (sl b.val)) (b.val / 6) 0)
        ∗ bigSep Finset.univ fun s : Fin 6 => atPos ER (wCell c s) 0 ∅ 0)
      ⊢ ring m ρ c 0 0 := by
  unfold ring wWhole
  iintro ⟨#HR, Hw, ⟨%f, Hs⟩, Ht, Hat⟩
  isplitl [Hw Ht]
  · ihave Hw' := (Entails.of_eq (wblks_split m ρ c)) $$ Hw
    iapply (Entails.of_eq (bigSep_congr (fun b _ => show iprop(wBlk m ρ c b ∗ dutyTok ER (wCell c (sl b.val)) (b.val / 6) 0) = wB m ρ c 0 0 b by
      unfold wB; rw [if_neg (Nat.not_lt_zero _), if_neg (Nat.not_lt_zero _)])))
    rw [bigSep_sep']
    isplitl [Hw'] <;> iassumption
  · ihave Hs' := (Entails.of_eq (slots_split c f)) $$ Hs
    ihave Hre : (bigSep Finset.univ fun s : Fin 6 => (reached ER (wCell c s) 0 : sProp 𝕄)) $$ []
    · iapply (slots_reached m ρ c K); iexact HR
    have h : (bigSep Finset.univ fun s : Fin 6 =>
      iprop(atPos ER (wCell c s) 0 ∅ 0 ∗ reached ER (wCell c s) 0 ∗ slotPts c s f)) ⊢ bigSep Finset.univ fun s : Fin 6 => wT (F := F) c 0 0 s :=
      bigSep_mono fun s _ => slot_start c f s
    iapply h
    rw [bigSep_sep', bigSep_sep']
    isplitl [Hat]; · iexact Hat
    isplitl [Hre] <;> iassumption

theorem ring_end (c : Dev nD) (e : ℕ) (he : e = 16) :
    ring m ρ c 16 e ⊢ iprop(wWhole m ρ c ∗ (∃ f, ((c : Thread nD τ).loc cc0_scratch0) ↦{fullShare} f)
        ∗ bigSep Finset.univ fun s : Fin 6 => atPos ER (wCell c s) ((21 - s.val) / 6) ∅ 0) := by
  subst he
  unfold ring wWhole
  iintro ⟨HB, HT⟩
  isplitl [HB]
  · iapply (Entails.of_eq (wblks_split m ρ c).symm)
    iapply (Entails.of_eq (bigSep_congr (fun b _ => show wB m ρ c 16 16 b = wBlk m ρ c b by unfold wB; rw [if_pos b.isLt]))) $$ HB
  · have h : (bigSep Finset.univ fun s : Fin 6 => wT (F := F) c 16 16 s)
        ⊢ bigSep Finset.univ fun s : Fin 6 => iprop((∃ f, slotPts (F := F) c s f) ∗ atPos ER (wCell c s) ((21 - s.val) / 6) ∅ 0) :=
      bigSep_mono fun s _ => slot_end c s
    ihave HT1 := h $$ HT
    ihave HT' := (Entails.of_eq (bigSep_sep' _ _ _)) $$ HT1
    icases HT' with ⟨H1, H2⟩
    isplitl [H1]; · iapply (slots_join c) $$ H1
    iexact H2

end Cert.KernelIdeal.Hand

end
-- ==== Proof.Ideal.Rest.lean ====
/-
A grid point's work after the exchange: the loads and stores as steps, and the part of the program that every point runs,
from the wait for its block of `w` to the value of its block of results.
-/
module

public import proofs.«01_k».proof.Proof.Ideal.State
public import Idealize.ShloMosaic.Lib.Pipeline.Value

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Loads and stores -/

theorem step_load (K : Dev nD × CI → ℕ) (c : Dev nD) {cs : CoreSpace} {s : Shape} {e : EltTy} {mr : Memref sig .tc cs s e} {r : LoadRect s}
    {hl : mr.view.LoadsAt r} {S : Finset (Idx (mr.view.loc (c : Thread nD τ)))} {f : Buf (Elt F) (mr.view.loc (c : Thread nD τ))}
    (v : r.shape.Idx → Elt F e) (hS : mr.view.setOn r.set ⊆ S) (hv : mr.view.readAt (Elt F) r f = v)
    {α : Type} {kk : (r.shape.Idx → Elt F e) → Prog (TpuEff nD τ sig (Elt F) Λ₀ .tc) α} {Q : α → sProp 𝕄} {P : sProp 𝕄}
    (h : iprop(records m ρ K ∗ (mr.view.loc (c : Thread nD τ) ↦[S]{fullShare} f) ∗ P) ⊢ run c (kk v) Q) :
    iprop(records m ρ K ∗ (mr.view.loc (c : Thread nD τ) ↦[S]{fullShare} f) ∗ P) ⊢ run c (.op (.load mr r hl) kk) Q := by
  subst hv
  iintro ⟨#HR, H, HP⟩
  iapply (wp_load 𝒱₀ (c : Thread nD τ) none Set.univ (m := mr) hS) $$ H
  iintro H
  iapply h
  isplitr; · iexact HR
  isplitl [H] <;> iassumption

theorem step_smem (K : Dev nD × CI → ℕ) (c : Dev nD) {mr : Memref sig .tc .smem S1 .f32} {r : Rect S1}
    {hw : (mr.access r).Loads} {x : r.shape.Idx} {f : Buf (Elt F) ((mr.access r).loc (c : Thread nD τ))}
    (v : Elt F .f32) (hv : (mr.access r).read (Elt F) f x = v)
    {α : Type} {kk : Elt F .f32 → Prog (TpuEff nD τ sig (Elt F) Λ₀ .tc) α} {Q : α → sProp 𝕄} {P : sProp 𝕄}
    (h : iprop(records m ρ K ∗ ((mr.access r).loc (c : Thread nD τ) ↦{fullShare} f) ∗ P) ⊢ run c (kk v) Q) :
    iprop(records m ρ K ∗ ((mr.access r).loc (c : Thread nD τ) ↦{fullShare} f) ∗ P) ⊢ run c (smemLoadElt mr r hw x kk) Q := by
  subst hv
  iintro ⟨#HR, H, HP⟩
  iapply (wp_smemLoadElt 𝒱₀ (c : Thread nD τ) none Set.univ (m := mr) (Finset.subset_univ _)) $$ H
  iintro H
  iapply h
  isplitr; · iexact HR
  isplitl [H] <;> iassumption

theorem step_store (K : Dev nD × CI → ℕ) (c : Dev nD) {cs : CoreSpace} {s : Shape} {e : EltTy} {mr : Memref sig .tc cs s e} {r : Rect s}
    {w : r.shape.Idx → Elt F e} {Mk : Finset r.shape.Idx} {hx : (mr.access r).Stores Mk} {hm}
    {S : Finset (Idx ((mr.access r).loc (c : Thread nD τ)))} {f : Buf (Elt F) ((mr.access r).loc (c : Thread nD τ))}
    (G : sProp 𝕄) (hS : (mr.access r).setOn Mk ⊆ S)
    (hG : ((mr.access r).loc (c : Thread nD τ) ↦[S]{fullShare} ((mr.access r).write (Elt F) f w Mk)) = G)
    {α : Type} {kk : PUnit → Prog (TpuEff nD τ sig (Elt F) Λ₀ .tc) α} {Q : α → sProp 𝕄} {P : sProp 𝕄}
    (h : iprop(records m ρ K ∗ G ∗ P) ⊢ run c (kk ⟨⟩) Q) :
    iprop(records m ρ K ∗ ((mr.access r).loc (c : Thread nD τ) ↦[S]{fullShare} f) ∗ P) ⊢ run c (.op (.store mr r w Mk hx hm) kk) Q := by
  subst hG
  iintro ⟨#HR, H, HP⟩
  iapply (wp_store 𝒱₀ (c : Thread nD τ) none Set.univ (m := mr) (r := r) (Mk := Mk) hS) $$ H
  iintro H
  iapply h
  isplitr; · iexact HR
  isplitl [H] <;> iassumption

theorem ret_step (c : Dev nD) {α : Type} (a : α) {Q : α → sProp 𝕄} :
    Q a ⊢ run (F := F) c (.ret a) Q := by
  unfold run
  rw [wp_ret]
  exact fupd_intro

theorem hz2 : (![0, 0] : Fin 2 → ℕ) = fun _ => 0 := funext fun a => by fin_cases a <;> rfl

/-- A load of slot `s`, the ring buffer at block `b`, reads that block. -/
theorem read_slot (c : Dev nD) (s : Fin 6) (b : Fin 16) {o : Fin 3 → ℕ} (inb) (h : o = ![s.val, 0, 0]) :
    wvM.view.readAt (Elt F) (Rect.unit (s := S6x4096x512) o S1x4096x512.size inb).toLoadRect (wbuf m ρ c b) = wvec m ρ c b := by
  subst h
  funext j
  show wmat m ρ c _ = wmat m ρ c _
  congr 1
  refine funext fun a => ?_
  fin_cases a
  · exact Fin.ext (show 0 + 1 * (j 1).val = (j 1).val by omega)
  · exact Fin.ext (show 512 * b.val + (0 + 1 * (j 2).val) = 512 * b.val + (j 2).val by omega)

/-- The elements that a load of a rectangle reads are those of the slice at the rectangle. -/
theorem setOn_load {cs : CoreSpace} {s : Shape} {e : EltTy} (mr : Memref sig .tc cs s e) (r : Rect s) :
    mr.view.setOn r.toLoadRect.set = (mr.access r).set := by
  refine Eq.trans ?_ (View.set_slice mr.view r).symm
  rfl

theorem slot_sub (s : Fin 6) {o : Fin 3 → ℕ} (inb) (h : o = ![s.val, 0, 0]) :
    wvM.view.setOn (Rect.unit (s := S6x4096x512) o S1x4096x512.size inb).toLoadRect.set ⊆ (slotV s).view.set := by
  subst h; rw [setOn_load]; exact subset_of_eq (View.set_reshape _ _).symm
theorem row_sub (s : Dev nD) {o : Fin 2 → ℕ} (inb) (h : o = ![256 * s.val, 0]) :
    xqM.view.setOn (Rect.unit (s := S4096x256) o S256x256.size inb).toLoadRect.set ⊆ (rowV s).view.set := by
  subst h; rw [setOn_load]
theorem col_sub (s : Dev nD) {o : Fin 2 → ℕ} (inb) (h : o = ![0, 256 * s.val]) :
    xgM.view.setOn (Rect.unit (s := S256x4096) o S256x256.size inb).toLoadRect.set ⊆ (colV s).view.set := by
  subst h; rw [setOn_load]
/-- The one element of a scale's staging buffer. -/
theorem one_idx (a b : S1.Idx) : a = b := funext fun k => by fin_cases k; exact Subsingleton.elim (α := Fin 1) _ _
theorem read_sx (c : Dev nD) (x) : ((Memref.whole cc0_stg1_0).access (Rect.unit (s := S1) ![0] S1.size inb_S1_S1_0)).read (Elt F) (sxstg m ρ c) x = sxstg m ρ c zero1 :=
  (congrArg (sxstg m ρ c) (one_idx _ _) : sxstg m ρ c _ = sxstg m ρ c zero1)
theorem read_sy (c : Dev nD) (x) : ((Memref.whole cc0_stg2_0).access (Rect.unit (s := S1) ![0] S1.size inb_S1_S1_0)).read (Elt F) (systg m ρ c) x = systg m ρ c zero1 :=
  (congrArg (systg m ρ c) (one_idx _ _) : systg m ρ c _ = systg m ρ c zero1)
theorem col_sub' (s : Dev nD) {o : Fin 2 → ℕ} (inb) (h : o = ![0, 256 * s.val]) :
    (xgM.access (Rect.unit (s := S256x4096) o S256x256.size inb)).setOn Finset.univ ⊆ (colV s).view.set := by
  subst h; exact subset_of_eq rfl

/-- The own block, copied through registers: read from the cast block's row block `c` and stored, unchanged, over column
    block `c` of the own gathered matrix. -/
theorem own_col (c : Dev nD) {o o' : Fin 2 → ℕ} (inb inb') (h : o = ![256 * c.val, 0]) (h' : o' = ![0, 256 * c.val])
    (f : Buf (Elt F) ((c : Thread nD τ).loc cc0_scratch2)) :
    ((xgM.access (Rect.unit (s := S256x4096) o' S256x256.size inb')).loc (c : Thread nD τ) ↦[(colV c).view.set]{fullShare}
      ((xgM.access (Rect.unit (s := S256x4096) o' S256x256.size inb')).write (Elt F) f
        (k0_pay2 (xqM.view.readAt (Elt F) (Rect.unit (s := S4096x256) o S256x256.size inb).toLoadRect (xq m ρ c))) Finset.univ) : sProp 𝕄)
      = colPts c c (xgAll m ρ c) := by
  subst h h'
  unfold k0_pay2
  rw [shapeCast_self]
  exact land_x m ρ c c f

/-- Whole buffers of the staging and of the gathered matrix on device `c`. -/
abbrev wholeAt (c : Dev nD) (b : Ref sig .tc) (f : Buf (Elt F) ((c : Thread nD τ).loc b)) : sProp 𝕄 := ((c : Thread nD τ).loc b) ↦{fullShare} f

theorem read_xg (c : Dev nD) :
    xgM.view.readAt (Elt F) (Rect.unit (s := S256x4096) ![0, 0] S256x4096.size inb_S256x4096_S256x4096_0_0).toLoadRect (xgAll m ρ c) = xgAll m ρ c :=
  Memref.readAt_unit_zero (Elt F) cc0_scratch2 hz2 _ _
theorem step_xg (K : Dev nD × CI → ℕ) (c : Dev nD) {hl}
    {α : Type} {kk : Vec F S256x4096 .fp8e5m2 → Prog (TpuEff nD τ sig (Elt F) Λ₀ .tc) α} {Q : α → sProp 𝕄} {P : sProp 𝕄}
    (h : iprop(records m ρ K ∗ wholeAt c cc0_scratch2 (xgAll m ρ c) ∗ P) ⊢ run c (kk (xgAll m ρ c)) Q) :
    iprop(records m ρ K ∗ wholeAt c cc0_scratch2 (xgAll m ρ c) ∗ P)
      ⊢ run c (.op (.load xgM (Rect.unit (s := S256x4096) ![0, 0] S256x4096.size inb_S256x4096_S256x4096_0_0).toLoadRect hl) kk) Q :=
  step_load m ρ K c (mr := xgM) (r := (Rect.unit (s := S256x4096) ![0, 0] S256x4096.size inb_S256x4096_S256x4096_0_0).toLoadRect)
    (S := Finset.univ) (f := xgAll m ρ c) (xgAll m ρ c) (Finset.subset_univ _) (read_xg m ρ c) h
theorem step_sx (K : Dev nD × CI → ℕ) (c : Dev nD) {hw} {x}
    {α : Type} {kk : Elt F .f32 → Prog (TpuEff nD τ sig (Elt F) Λ₀ .tc) α} {Q : α → sProp 𝕄} {P : sProp 𝕄}
    (h : iprop(records m ρ K ∗ wholeAt c cc0_stg1_0 (sxstg m ρ c) ∗ P) ⊢ run c (kk (sxstg m ρ c zero1)) Q) :
    iprop(records m ρ K ∗ wholeAt c cc0_stg1_0 (sxstg m ρ c) ∗ P)
      ⊢ run c (smemLoadElt (Memref.whole cc0_stg1_0) (Rect.unit (s := S1) ![0] S1.size inb_S1_S1_0) hw x kk) Q :=
  step_smem m ρ K c (mr := Memref.whole cc0_stg1_0) (r := Rect.unit (s := S1) ![0] S1.size inb_S1_S1_0) (f := sxstg m ρ c) (sxstg m ρ c zero1) (read_sx m ρ c x) h

theorem step_sy (K : Dev nD × CI → ℕ) (c : Dev nD) {hw} {x}
    {α : Type} {kk : Elt F .f32 → Prog (TpuEff nD τ sig (Elt F) Λ₀ .tc) α} {Q : α → sProp 𝕄} {P : sProp 𝕄}
    (h : iprop(records m ρ K ∗ wholeAt c cc0_stg2_0 (systg m ρ c) ∗ P) ⊢ run c (kk (systg m ρ c zero1)) Q) :
    iprop(records m ρ K ∗ wholeAt c cc0_stg2_0 (systg m ρ c) ∗ P)
      ⊢ run c (smemLoadElt (Memref.whole cc0_stg2_0) (Rect.unit (s := S1) ![0] S1.size inb_S1_S1_0) hw x kk) Q :=
  step_smem m ρ K c (mr := Memref.whole cc0_stg2_0) (r := Rect.unit (s := S1) ![0] S1.size inb_S1_S1_0) (f := systg m ρ c) (systg m ρ c zero1) (read_sy m ρ c x) h

/-! ## The program after the exchange -/

/-- A point's work once the exchange is done: wait for the block of `w`, load it, issue the block six further on if there
    is one, load the gathered matrix and the two scales, and compute. -/
def restTail (i : grid0.Coords) (c : Dev nD) (v14 : Vec F S1x4096x512 .f32) :
    Prog (TpuEff nD τ sig (Elt F) Λ₀ .tc) (Σ' (arg0 : BitVec 32) (d0 : Dev nD) (v2 : BitVec 32), FVec F S256x512 .f32) :=
  .op (.load xgM (Rect.unit (s := S256x4096) ![0, 0] S256x4096.size inb_S256x4096_S256x4096_0_0).toLoadRect (View.loadsAt_vmem h_S256x4096)) fun v21 =>
    smemLoadElt (Memref.whole cc0_stg1_0) (Rect.unit (s := S1) ![0] S1.size inb_S1_S1_0) (View.loads_smem_one rfl numel1_S1) (Shape.Idx.first (numel1_S1.symm ▸ Nat.one_pos)) fun v23 =>
      smemLoadElt (Memref.whole cc0_stg2_0) (Rect.unit (s := S1) ![0] S1.size inb_S1_S1_0) (View.loads_smem_one rfl numel1_S1) (Shape.Idx.first (numel1_S1.symm ▸ Nat.one_pos)) fun v24 =>
        .ret ⟨BitVec.ofNat 32 (i 0).val, c, Scalar.remsi (Scalar.divsi (Dev.word c) 1#32) 16#32, k0_pay3 v14 v21 v23 v24⟩

def restProg (i : grid0.Coords) (c : Dev nD) : Prog (TpuEff nD τ sig (Elt F) Λ₀ .tc) (Σ' (arg0 : BitVec 32) (d0 : Dev nD) (v2 : BitVec 32), FVec F S256x512 .f32) :=
  .op (.waitDma2 ((cc0_scratch3.slice (Rect.unit (s := S6) (k0_off6 i) S1.size (k0_off6_inb i))).squeeze S_ squeezes_S1_S_).sem
      (wM.slice (Rect.unit (s := S4096x8192) (k0_off8 i) S4096x512.size (k0_off8_inb i)) (fun _ => rfl))
      ((wvM.slice (Rect.unit (s := S6x4096x512) (k0_off7 i) S1x4096x512.size (k0_off7_inb i)) (fun _ => rfl)).squeeze S4096x512 squeezes_S1x4096x512_S4096x512)
      (View.wordExact_bits rfl) ((View.wordExact_bits rfl).reshape _ _)) fun _ =>
    .op (.load wvM (Rect.unit (s := S6x4096x512) (k0_off9 i) S1x4096x512.size (k0_off9_inb i)).toLoadRect (View.loadsAt_vmem h_S1x4096x512)) fun v14 =>
      if h2 : k0_cond2 i = 1#1 then
        .op (.enqueueDma (wM.slice (Rect.unit (s := S4096x8192) (k0_off12 i) S4096x512.size (k0_off12_inb i h2)) (fun _ => rfl))
          (.here ((wvM.slice (Rect.unit (s := S6x4096x512) (k0_off11 i) S1x4096x512.size (k0_off11_inb i h2)) (fun _ => rfl)).squeeze S4096x512 squeezes_S1x4096x512_S4096x512))
          (.dma ((cc0_scratch3.slice (Rect.unit (s := S6) (k0_off10 i) S1.size (k0_off10_inb i h2))).squeeze S_ squeezes_S1_S_).sem)
          (View.wordExact_bits rfl) ((View.wordExact_bits rfl).reshape _ _) ⟨Or.inl rfl, trivial⟩) fun _ => restTail i c v14
      else restTail i c v14

theorem cond1_iff : ∀ t : Fin cfg0.N, k0_cond1 (grid0.coords t) = 1#1 ↔ t.val = 0 := by decide +kernel
theorem cond2_iff : ∀ t : Fin cfg0.N, k0_cond2 (grid0.coords t) = 1#1 ↔ t.val < 10 := by decide +kernel
theorem cond3_iff : ∀ t : Fin cfg0.N, k0_cond3 (grid0.coords t) = 1#1 ↔ t.val = 15 := by decide +kernel
theorem coord : ∀ t : Fin cfg0.N, ((grid0.coords t) 0).val = t.val := by decide +kernel

/-- After a point past the first the program is `restProg` at once. -/
theorem part20_later (c : Dev nD) (i : grid0.Coords) (h1 : ¬ k0_cond1 i = 1#1) (o : Memref sig .tc .vmem S256x512 .f32) (ho : o.IsWhole)
    {Q : (Σ' (arg0 : BitVec 32) (d0 : Dev nD) (v2 : BitVec 32), FVec F S256x512 .f32) → sProp 𝕄} :
    run c (k0_part20 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5) Q = run c (restProg i c) Q := by
  unfold run
  rw [k0_part20_eq_skeleton]
  unfold k0_part20_skel
  simp only [Prog.lift, Prog.bind_op, Prog.bind_ret, Prog.pure_eq_ret, wp_deviceId, dif_neg h1, smemLoad, smemLoadElt]
  rfl

theorem rest_tail (K : Dev nD × CI → ℕ) (c : Dev nD) (i : grid0.Coords) (b : Fin 16)
    {Q : (Σ' (arg0 : BitVec 32) (d0 : Dev nD) (v2 : BitVec 32), FVec F S256x512 .f32) → sProp 𝕄} {P : sProp 𝕄}
    (h : ∀ a v, iprop(records m ρ K ∗ wholeAt c cc0_scratch2 (xgAll m ρ c) ∗ wholeAt c cc0_stg1_0 (sxstg m ρ c) ∗ wholeAt c cc0_stg2_0 (systg m ρ c) ∗ P)
      ⊢ Q ⟨a, c, v, outAt m ρ c b⟩) :
    iprop(records m ρ K ∗ wholeAt c cc0_scratch2 (xgAll m ρ c) ∗ wholeAt c cc0_stg1_0 (sxstg m ρ c) ∗ wholeAt c cc0_stg2_0 (systg m ρ c) ∗ P)
      ⊢ run c (restTail i c (wvec m ρ c b)) Q := by
  unfold restTail
  refine step_xg m ρ K c ?_
  refine BIBase.Entails.trans (Q := iprop(records m ρ K ∗ wholeAt c cc0_stg1_0 (sxstg m ρ c) ∗ (wholeAt c cc0_stg2_0 (systg m ρ c) ∗ wholeAt c cc0_scratch2 (xgAll m ρ c) ∗ P))) ?_
    (step_sx m ρ K c ?_)
  · iintro ⟨#HR, H1, H2, H3, H4⟩
    isplitr; · iexact HR
    isplitl [H2]; · iexact H2
    isplitl [H3]; · iexact H3
    isplitl [H1] <;> iassumption
  refine BIBase.Entails.trans (Q := iprop(records m ρ K ∗ wholeAt c cc0_stg2_0 (systg m ρ c) ∗ (wholeAt c cc0_stg1_0 (sxstg m ρ c) ∗ wholeAt c cc0_scratch2 (xgAll m ρ c) ∗ P))) ?_
    (step_sy m ρ K c ?_)
  · iintro ⟨#HR, H1, H2, H3⟩
    isplitr; · iexact HR
    isplitl [H2]; · iexact H2
    isplitl [H1] <;> iassumption
  refine BIBase.Entails.trans ?_ (BIBase.Entails.trans (h (BitVec.ofNat 32 (i 0).val) (Scalar.remsi (Scalar.divsi (Dev.word c) 1#32) 16#32)) (ret_step c _))
  iintro ⟨#HR, H1, H2, H3, H4⟩
  isplitr; · iexact HR
  isplitl [H3]; · iexact H3
  isplitl [H2]; · iexact H2
  isplitl [H1] <;> iassumption

theorem rest_run (K : Dev nD × CI → ℕ) (c : Dev nD) (t : Fin cfg0.N)
    {Q : (Σ' (arg0 : BitVec 32) (d0 : Dev nD) (v2 : BitVec 32), FVec F S256x512 .f32) → sProp 𝕄} {P : sProp 𝕄}
    (h : ∀ a v, iprop(records m ρ K ∗ wholeAt c cc0_scratch2 (xgAll m ρ c) ∗ wholeAt c cc0_stg1_0 (sxstg m ρ c) ∗ wholeAt c cc0_stg2_0 (systg m ρ c)
        ∗ (ow c 0 ∗ ring m ρ c (t.val + 1) (min 16 (t.val + 7)) ∗ P))
      ⊢ Q ⟨a, c, v, outAt m ρ c (blkNo t)⟩) :
    iprop(records m ρ K ∗ (ow c 0 ∗ ring m ρ c t.val (min 16 (t.val + 6)))
        ∗ (wholeAt c cc0_scratch2 (xgAll m ρ c) ∗ wholeAt c cc0_stg1_0 (sxstg m ρ c) ∗ wholeAt c cc0_stg2_0 (systg m ρ c) ∗ P))
      ⊢ run c (restProg (grid0.coords t) c) Q := by
  have ht : t.val < 16 := lt_of_lt_of_eq t.isLt N_0
  have hc := coord t
  have hsl : (sl t.val).val = ((grid0.coords t) 0).val % 6 := by rw [hc]; rfl
  unfold restProg
  refine step_block m ρ K c t.val _ (blkNo t) rfl (by omega) (by omega) (wsem_eq _ _ (by rw [k0_off6_eq, hsl]))
    ((congrArg (fun v : Memref sig .tc .vmem S4096x512 .f32 => v.view.dmaCredit) (slot_eq (sl t.val) _ (by rw [k0_off7_eq, hsl]))).trans (credit_slot _)) ?_
  refine BIBase.Entails.trans (Q := iprop(records m ρ K ∗ slotPts c (sl t.val) (wbuf m ρ c (blkNo t)) ∗ (((∃ f, slotPts (F := F) c (sl t.val) f) -∗ ring m ρ c (t.val + 1) (min 16 (t.val + 6)))
      ∗ ow c 0 ∗ wholeAt c cc0_scratch2 (xgAll m ρ c) ∗ wholeAt c cc0_stg1_0 (sxstg m ρ c) ∗ wholeAt c cc0_stg2_0 (systg m ρ c) ∗ P))) ?_
    (step_load m ρ K c (mr := wvM) (wvec m ρ c (blkNo t)) (slot_sub (sl t.val) _ (by rw [k0_off9_eq, hsl])) (read_slot m ρ c (sl t.val) (blkNo t) _ (by rw [k0_off9_eq, hsl])) ?_)
  · iintro ⟨#HR, ⟨H1, H2, H3⟩, H4⟩
    isplitr; · iexact HR
    isplitl [H2]; · iexact H2
    isplitl [H3]; · iexact H3
    isplitl [H1] <;> iassumption
  have hput : iprop(records m ρ K ∗ slotPts c (sl t.val) (wbuf m ρ c (blkNo t)) ∗ (((∃ f, slotPts (F := F) c (sl t.val) f) -∗ ring m ρ c (t.val + 1) (min 16 (t.val + 6)))
      ∗ ow c 0 ∗ wholeAt c cc0_scratch2 (xgAll m ρ c) ∗ wholeAt c cc0_stg1_0 (sxstg m ρ c) ∗ wholeAt c cc0_stg2_0 (systg m ρ c) ∗ P))
      ⊢ iprop(records m ρ K ∗ ring m ρ c (t.val + 1) (min 16 (t.val + 6))
        ∗ (ow c 0 ∗ wholeAt c cc0_scratch2 (xgAll m ρ c) ∗ wholeAt c cc0_stg1_0 (sxstg m ρ c) ∗ wholeAt c cc0_stg2_0 (systg m ρ c) ∗ P)) := by
    iintro ⟨#HR, H1, H2, H3⟩
    isplitr; · iexact HR
    isplitl [H1 H2]
    · iapply H2; iexists _; iexact H1
    iexact H3
  have hfin : ∀ e, e = min 16 (t.val + 7) → iprop(records m ρ K ∗ ring m ρ c (t.val + 1) e
        ∗ (ow c 0 ∗ wholeAt c cc0_scratch2 (xgAll m ρ c) ∗ wholeAt c cc0_stg1_0 (sxstg m ρ c) ∗ wholeAt c cc0_stg2_0 (systg m ρ c) ∗ P))
      ⊢ run c (restTail (grid0.coords t) c (wvec m ρ c (blkNo t))) Q := by
    intro e he
    subst he
    refine BIBase.Entails.trans ?_ (rest_tail m ρ K c (grid0.coords t) (blkNo t) h)
    iintro ⟨#HR, H1, H2, H3, H4, H5, H6⟩
    isplitr; · iexact HR
    isplitl [H3]; · iexact H3
    isplitl [H4]; · iexact H4
    isplitl [H5]; · iexact H5
    isplitl [H2]; · iexact H2
    isplitl [H1] <;> iassumption
  by_cases h2 : k0_cond2 (grid0.coords t) = 1#1
  · have ht' := (cond2_iff t).mp h2
    have he : min 16 (t.val + 6) = t.val + 6 := by omega
    have hsl' : (sl (t.val + 6)).val = ((grid0.coords t) 0).val % 6 := by rw [hc]; show (t.val + 6) % 6 = _; omega
    rw [dif_pos h2]
    refine BIBase.Entails.trans hput ?_
    rw [he]
    refine step_issue m ρ K c (t.val + 1) (t.val + 6) ⟨t.val + 6, by omega⟩ rfl (by omega) (by omega)
      (wblk_eq ⟨t.val + 6, by omega⟩ _ (by rw [k0_off12_eq, hc]; show ![0, 512 * t.val + 3072] = ![0, 512 * (t.val + 6)]; rw [Nat.mul_add]))
      (slot_eq _ _ (by rw [k0_off11_eq, hsl'])) (wsem_eq _ _ (by rw [k0_off10_eq, hsl'])) ?_
    exact hfin _ (by omega)
  · have ht' : ¬ t.val < 10 := fun h => h2 ((cond2_iff t).mpr h)
    rw [dif_neg h2]
    exact BIBase.Entails.trans hput (hfin _ (by omega))

end Cert.KernelIdeal.Hand

end
-- ==== Proof.Ideal.Parts.lean ====
/-
The exchange at the first point and the waits of the last, part by part of the printed program: each part takes the
assertion that the program needs before it to the one that holds after it.
-/
module

public import proofs.«01_k».proof.Proof.Ideal.Rest

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Small rearrangements and the words of the program -/

theorem swap_front {R A B P : sProp 𝕄} : iprop(R ∗ A ∗ (B ∗ P)) ⊢ iprop(R ∗ B ∗ (A ∗ P)) := by
  iintro ⟨HR, HA, HB, HP⟩
  isplitl [HR]; · iexact HR
  isplitl [HB]; · iexact HB
  isplitl [HA] <;> iassumption

theorem sep_assoc_in {R A B P : sProp 𝕄} : iprop(R ∗ (A ∗ B) ∗ P) ⊢ iprop(R ∗ A ∗ (B ∗ P)) := by
  iintro ⟨HR, ⟨HA, HB⟩, HP⟩
  isplitl [HR]; · iexact HR
  isplitl [HA]; · iexact HA
  isplitl [HB] <;> iassumption

theorem sep_assoc_out {R A B P : sProp 𝕄} : iprop(R ∗ A ∗ (B ∗ P)) ⊢ iprop(R ∗ (A ∗ B) ∗ P) := by
  iintro ⟨HR, HA, HB, HP⟩
  isplitl [HR]; · iexact HR
  isplitl [HA HB]
  · isplitl [HA] <;> iassumption
  iexact HP

theorem ret_fupd (c : Dev nD) {α : Type} (a : α) {Q : α → sProp 𝕄} :
    iprop(|={Set.univ}=> Q a) ⊢ run (F := F) c (.ret a) Q := by
  unfold run
  rw [wp_ret]

theorem exists_pre {α : Type} {Φ : α → sProp 𝕄} {Q : sProp 𝕄} (h : ∀ a, Φ a ⊢ Q) : iprop(∃ a, Φ a) ⊢ Q := by
  iintro ⟨%a, H⟩
  iapply (h a)
  iexact H

theorem step_signal_word (K : Dev nD × CI → ℕ) (c : Dev nD) (k : Fin 15) (n : Dev nD) (hn : n = nb c k)
    {α : Type} {kk : PUnit → Prog (TpuEff nD τ sig (Elt F) Λ₀ .tc) α} {Q : α → sProp 𝕄} {P : sProp 𝕄}
    (h : iprop(records m ρ K ∗ (ow c (owedR c 0 + owedB c (k.val + 1)) ∗ prog (k.val + 1) (sigA (F := F) c) (fun _ => iprop(emp))) ∗ P)
      ⊢ run c (kk ⟨⟩) Q) :
    iprop(records m ρ K ∗ (ow c (owedR c 0 + owedB c k.val) ∗ prog k.val (sigA (F := F) c) (fun _ => iprop(emp))) ∗ P)
      ⊢ run c (.op (.semSignal (n, .tc) barS (1#32).toInt) kk) Q := by
  rw [show (1#32).toInt = ((1 : ℕ) : ℤ) by decide]
  exact step_signal m ρ K c k n hn 1 rfl h

theorem step_barrier_word (K : Dev nD × CI → ℕ) (c : Dev nD)
    {α : Type} {kk : PUnit → Prog (TpuEff nD τ sig (Elt F) Λ₀ .tc) α} {Q : α → sProp 𝕄} {P : sProp 𝕄}
    (h : iprop(records m ρ K ∗ (ow c (owedR c 0) ∗ atPos ER (barCell c) 1 ∅ 0 ∗ bigSep Finset.univ fun r : Fin 15 => iprop(∃ f, colPts (F := F) (nb c r) c f)) ∗ P)
      ⊢ run c (kk ⟨⟩) Q) :
    iprop(records m ρ K ∗ (ow c (owedR c 0) ∗ cred (tallyAt (barCell c) () 15) ∗ atPos ER (barCell c) 0 ∅ 0 ∗ levAts L lv) ∗ P)
      ⊢ run c (.op (.semWait barS (15#32).toInt) kk) Q := by
  rw [show (15#32).toInt = ((15 : ℕ) : ℤ) by decide]
  exact step_barrier m ρ K c 15 rfl h

/-- What a copy into a column block, or out of a row block, credits. -/
theorem col_credit (s : Dev nD) {o : Fin 2 → ℕ} (inb) (h : o = ![0, 256 * s.val]) :
    (xgM.slice (Rect.unit (s := S256x4096) o S256x256.size inb) (fun _ => rfl)).view.dmaCredit = NX :=
  (congrArg (fun v : Memref sig .tc .vmem S256x256 .fp8e5m2 => v.view.dmaCredit) (col_eq s inb h)).trans (credit_col s)
theorem row_credit (s : Dev nD) {o : Fin 2 → ℕ} (inb) (h : o = ![256 * s.val, 0]) :
    (xqM.slice (Rect.unit (s := S4096x256) o S256x256.size inb) (fun _ => rfl)).view.dmaCredit = NX :=
  (congrArg (fun v : Memref sig .tc .vmem S256x256 .fp8e5m2 => v.view.dmaCredit) (row_eq s inb h)).trans (credit_row s)

/-! ## The cast block and the own column -/

/-- Loading the whole block of `x`. -/
theorem step_x (K : Dev nD × CI → ℕ) (c : Dev nD) {hl}
    {α : Type} {kk : Vec F S4096x256 .f32 → Prog (TpuEff nD τ sig (Elt F) Λ₀ .tc) α} {Q : α → sProp 𝕄} {P : sProp 𝕄}
    (h : iprop(records m ρ K ∗ wholeAt c cc0_stg0_0 (xstg m ρ c) ∗ P) ⊢ run c (kk (xstg m ρ c)) Q) :
    iprop(records m ρ K ∗ wholeAt c cc0_stg0_0 (xstg m ρ c) ∗ P)
      ⊢ run c (.op (.load (Memref.whole cc0_stg0_0) (Rect.unit (s := S4096x256) ![0, 0] S4096x256.size inb_S4096x256_S4096x256_0_0).toLoadRect hl) kk) Q :=
  step_load m ρ K c (mr := Memref.whole cc0_stg0_0) (r := (Rect.unit (s := S4096x256) ![0, 0] S4096x256.size inb_S4096x256_S4096x256_0_0).toLoadRect)
    (S := Finset.univ) (f := xstg m ρ c) (xstg m ρ c) (Finset.subset_univ _) (Memref.readAt_unit_zero (Elt F) cc0_stg0_0 hz2 _ _) h

/-- Loading the whole cast block, whatever it holds. -/
theorem step_q (K : Dev nD × CI → ℕ) (c : Dev nD) {hl} (f : Buf (Elt F) ((c : Thread nD τ).loc cc0_scratch1))
    {α : Type} {kk : Vec F S4096x256 .fp8e5m2 → Prog (TpuEff nD τ sig (Elt F) Λ₀ .tc) α} {Q : α → sProp 𝕄} {P : sProp 𝕄}
    (h : ∀ v, iprop(records m ρ K ∗ wholeAt c cc0_scratch1 f ∗ P) ⊢ run c (kk v) Q) :
    iprop(records m ρ K ∗ wholeAt c cc0_scratch1 f ∗ P)
      ⊢ run c (.op (.load xqM (Rect.unit (s := S4096x256) ![0, 0] S4096x256.size inb_S4096x256_S4096x256_0_0).toLoadRect hl) kk) Q :=
  step_load m ρ K c (mr := xqM) (r := (Rect.unit (s := S4096x256) ![0, 0] S4096x256.size inb_S4096x256_S4096x256_0_0).toLoadRect)
    (S := Finset.univ) (f := f) _ (Finset.subset_univ _) rfl (h _)

/-- Storing the cast block whole. -/
theorem step_cast (K : Dev nD × CI → ℕ) (c : Dev nD) {hx hm} (f : Buf (Elt F) ((c : Thread nD τ).loc cc0_scratch1))
    {α : Type} {kk : PUnit → Prog (TpuEff nD τ sig (Elt F) Λ₀ .tc) α} {Q : α → sProp 𝕄} {P : sProp 𝕄}
    (h : iprop(records m ρ K ∗ wholeAt c cc0_scratch1 (xq m ρ c) ∗ P) ⊢ run c (kk ⟨⟩) Q) :
    iprop(records m ρ K ∗ wholeAt c cc0_scratch1 f ∗ P)
      ⊢ run c (.op (.store xqM (Rect.unit (s := S4096x256) ![0, 0] S4096x256.size inb_S4096x256_S4096x256_0_0) (k0_pay1 (xstg m ρ c)) Finset.univ hx hm) kk) Q :=
  step_store m ρ K c (mr := xqM) (r := Rect.unit (s := S4096x256) ![0, 0] S4096x256.size inb_S4096x256_S4096x256_0_0)
    (S := Finset.univ) (f := f) (wholeAt c cc0_scratch1 (xq m ρ c)) (Finset.subset_univ _)
    (congrArg (wholeAt c cc0_scratch1) (Memref.write_access_unit_zero_univ (Elt F) cc0_scratch1 hz2 _ f (k0_pay1 (xstg m ρ c)))) h

/-- Loading the own row block of the cast block. -/
theorem step_own_row (K : Dev nD × CI → ℕ) (c : Dev nD) {o : Fin 2 → ℕ} {inb hl} (ho : o = ![256 * c.val, 0])
    {α : Type} {kk : Vec F S256x256 .fp8e5m2 → Prog (TpuEff nD τ sig (Elt F) Λ₀ .tc) α} {Q : α → sProp 𝕄} {P : sProp 𝕄}
    (h : iprop(records m ρ K ∗ rowPts c c (xq m ρ c) ∗ P)
      ⊢ run c (kk (xqM.view.readAt (Elt F) (Rect.unit (s := S4096x256) o S256x256.size inb).toLoadRect (xq m ρ c))) Q) :
    iprop(records m ρ K ∗ rowPts c c (xq m ρ c) ∗ P)
      ⊢ run c (.op (.load xqM (Rect.unit (s := S4096x256) o S256x256.size inb).toLoadRect hl) kk) Q :=
  step_load m ρ K c (mr := xqM) (r := (Rect.unit (s := S4096x256) o S256x256.size inb).toLoadRect)
    (S := (rowV c).view.set) (f := xq m ρ c) _ (row_sub c inb ho) rfl h

/-- Loading the own column block of the gathered matrix, whatever it holds. -/
theorem step_own_col (K : Dev nD × CI → ℕ) (c : Dev nD) {o : Fin 2 → ℕ} {inb hl} (ho : o = ![0, 256 * c.val])
    (f : Buf (Elt F) ((c : Thread nD τ).loc cc0_scratch2))
    {α : Type} {kk : Vec F S256x256 .fp8e5m2 → Prog (TpuEff nD τ sig (Elt F) Λ₀ .tc) α} {Q : α → sProp 𝕄} {P : sProp 𝕄}
    (h : ∀ v, iprop(records m ρ K ∗ colPts c c f ∗ P) ⊢ run c (kk v) Q) :
    iprop(records m ρ K ∗ colPts c c f ∗ P)
      ⊢ run c (.op (.load xgM (Rect.unit (s := S256x4096) o S256x256.size inb).toLoadRect hl) kk) Q :=
  step_load m ρ K c (mr := xgM) (r := (Rect.unit (s := S256x4096) o S256x256.size inb).toLoadRect)
    (S := (colV c).view.set) (f := f) _ (col_sub c inb ho) rfl (h _)

/-- Storing the own row block over the own column block. -/
theorem step_own_store (K : Dev nD × CI → ℕ) (c : Dev nD) {o o' : Fin 2 → ℕ} {inb inb' hx hm} (ho : o = ![256 * c.val, 0]) (ho' : o' = ![0, 256 * c.val])
    (f : Buf (Elt F) ((c : Thread nD τ).loc cc0_scratch2))
    {α : Type} {kk : PUnit → Prog (TpuEff nD τ sig (Elt F) Λ₀ .tc) α} {Q : α → sProp 𝕄} {P : sProp 𝕄}
    (h : iprop(records m ρ K ∗ colPts c c (xgAll m ρ c) ∗ P) ⊢ run c (kk ⟨⟩) Q) :
    iprop(records m ρ K ∗ colPts c c f ∗ P)
      ⊢ run c (.op (.store xgM (Rect.unit (s := S256x4096) o' S256x256.size inb')
        (k0_pay2 (xqM.view.readAt (Elt F) (Rect.unit (s := S4096x256) o S256x256.size inb).toLoadRect (xq m ρ c))) Finset.univ hx hm) kk) Q :=
  step_store m ρ K c (mr := xgM) (r := Rect.unit (s := S256x4096) o' S256x256.size inb')
    (S := (colV c).view.set) (f := f) (colPts c c (xgAll m ρ c)) (col_sub' c inb' ho') (own_col m ρ c inb inb' ho ho' f) h

/-! ## The parts of the exchange, in the program's order -/

theorem part1_run (K : Dev nD × CI → ℕ) (c : Dev nD) (i : grid0.Coords) (o : Memref sig .tc .vmem S256x512 .f32) (ho : o.IsWhole)
    {Q : (PUnit) → sProp 𝕄} {P : sProp 𝕄}
    (h : ∀ a : PUnit, iprop(records m ρ K ∗ ring m ρ c 0 5 ∗ P) ⊢ Q a) :
    iprop(records m ρ K ∗ ring m ρ c 0 0 ∗ P) ⊢ run c (k0_part1 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 ) Q := by
  rw [k0_part1_eq_skeleton]
  unfold k0_part1_skel
  simp only [semSignalWord, semWaitWord, Prog.lift, Prog.bind_op, Prog.bind_ret, Prog.pure_eq_ret]
  refine step_issue m ρ K c 0 0 0 rfl (by decide) (by decide) (wblk_eq 0 _ rfl) (slot_eq 0 _ rfl) (wsem_eq 0 _ rfl) ?_
  refine step_issue m ρ K c 0 1 1 rfl (by decide) (by decide) (wblk_eq 1 _ rfl) (slot_eq 1 _ rfl) (wsem_eq 1 _ rfl) ?_
  refine step_issue m ρ K c 0 2 2 rfl (by decide) (by decide) (wblk_eq 2 _ rfl) (slot_eq 2 _ rfl) (wsem_eq 2 _ rfl) ?_
  refine step_issue m ρ K c 0 3 3 rfl (by decide) (by decide) (wblk_eq 3 _ rfl) (slot_eq 3 _ rfl) (wsem_eq 3 _ rfl) ?_
  refine step_issue m ρ K c 0 4 4 rfl (by decide) (by decide) (wblk_eq 4 _ rfl) (slot_eq 4 _ rfl) (wsem_eq 4 _ rfl) ?_
  exact BIBase.Entails.trans (h _) (ret_step c _)

theorem part2_run (K : Dev nD × CI → ℕ) (c : Dev nD) (i : grid0.Coords) (h1 : k0_cond1 i = 1#1) (o : Memref sig .tc .vmem S256x512 .f32) (ho : o.IsWhole) (v2 : BitVec 32)
    {Q : (Σ' (v68 : Sems sig S_), BitVec 32) → sProp 𝕄} {P : sProp 𝕄}
    (h : ∀ a : BitVec 32, iprop(records m ρ K ∗ (ring m ρ c 0 6 ∗ (ow c (owedR c 0 + owedB c 4) ∗ prog 4 (sigA (F := F) c) (fun _ => iprop(emp)))) ∗ P) ⊢ Q ⟨SemArray.scalar (sig.barrier 0 rfl), a⟩) :
    iprop(records m ρ K ∗ (ring m ρ c 0 5 ∗ (ow c (owedR c 0 + owedB c 0) ∗ prog 0 (sigA (F := F) c) (fun _ => iprop(emp)))) ∗ P) ⊢ run c (k0_part2 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part2_eq_skeleton]
  unfold k0_part2_skel
  simp only [semSignalWord, semWaitWord, Prog.lift, Prog.bind_op, Prog.bind_ret, Prog.pure_eq_ret]
  refine BIBase.Entails.trans sep_assoc_in ?_
  refine step_issue m ρ K c 0 5 5 rfl (by decide) (by decide) (wblk_eq 5 _ rfl) (slot_eq 5 _ rfl) (wsem_eq 5 _ rfl) ?_
  refine BIBase.Entails.trans swap_front ?_
  refine step_signal_word m ρ K c 0 _ (Fin.ext (k0_dev1_eq c)) ?_
  refine step_signal_word m ρ K c 1 _ (Fin.ext (k0_dev2_eq c)) ?_
  refine step_signal_word m ρ K c 2 _ (Fin.ext (k0_dev3_eq c)) ?_
  refine step_signal_word m ρ K c 3 _ (Fin.ext (k0_dev4_eq c)) ?_
  refine BIBase.Entails.trans ?_ (BIBase.Entails.trans (h _) (ret_step c _))
  exact BIBase.Entails.trans swap_front sep_assoc_out

theorem part3_run (K : Dev nD × CI → ℕ) (c : Dev nD) (i : grid0.Coords) (h1 : k0_cond1 i = 1#1) (o : Memref sig .tc .vmem S256x512 .f32) (ho : o.IsWhole) (v2 : BitVec 32) (v87 : BitVec 32)
    {Q : (BitVec 32) → sProp 𝕄} {P : sProp 𝕄}
    (h : ∀ a : BitVec 32, iprop(records m ρ K ∗ (ow c (owedR c 0 + owedB c 10) ∗ prog 10 (sigA (F := F) c) (fun _ => iprop(emp))) ∗ P) ⊢ Q a) :
    iprop(records m ρ K ∗ (ow c (owedR c 0 + owedB c 4) ∗ prog 4 (sigA (F := F) c) (fun _ => iprop(emp))) ∗ P) ⊢ run c (k0_part3 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1 (SemArray.scalar (sig.barrier 0 rfl)) v87) Q := by
  rw [k0_part3_eq_skeleton]
  unfold k0_part3_skel
  simp only [semSignalWord, semWaitWord, Prog.lift, Prog.bind_op, Prog.bind_ret, Prog.pure_eq_ret]
  refine step_signal_word m ρ K c 4 _ (Fin.ext (k0_dev5_eq c)) ?_
  refine step_signal_word m ρ K c 5 _ (Fin.ext (k0_dev6_eq c)) ?_
  refine step_signal_word m ρ K c 6 _ (Fin.ext (k0_dev7_eq c)) ?_
  refine step_signal_word m ρ K c 7 _ (Fin.ext (k0_dev8_eq c)) ?_
  refine step_signal_word m ρ K c 8 _ (Fin.ext (k0_dev9_eq c)) ?_
  refine step_signal_word m ρ K c 9 _ (Fin.ext (k0_dev10_eq c)) ?_
  exact BIBase.Entails.trans (h _) (ret_step c _)

theorem part4_run (K : Dev nD × CI → ℕ) (c : Dev nD) (i : grid0.Coords) (h1 : k0_cond1 i = 1#1) (o : Memref sig .tc .vmem S256x512 .f32) (ho : o.IsWhole) (v2 : BitVec 32) (v111 : BitVec 32)
    {Q : (Σ' (v135 : BitVec 32), BitVec 32) → sProp 𝕄} {P : sProp 𝕄}
    (h : ∀ a : Σ' (v135 : BitVec 32), BitVec 32, iprop(records m ρ K ∗ (ow c (owedR c 0) ∗ wholeAt c cc0_stg0_0 (xstg m ρ c) ∗ wholeAt c cc0_scratch1 (xq m ρ c) ∗ atPos ER (barCell c) 1 ∅ 0 ∗ bigSep Finset.univ fun r : Fin 15 => iprop(∃ f, colPts (F := F) (nb c r) c f)) ∗ P) ⊢ Q a) :
    iprop(records m ρ K ∗ ((ow c (owedR c 0 + owedB c 10) ∗ prog 10 (sigA (F := F) c) (fun _ => iprop(emp))) ∗ wholeAt c cc0_stg0_0 (xstg m ρ c) ∗ (∃ f, wholeAt (F := F) c cc0_scratch1 f) ∗ cred (tallyAt (barCell c) () 15) ∗ atPos ER (barCell c) 0 ∅ 0 ∗ levAts L lv) ∗ P) ⊢ run c (k0_part4 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1 (SemArray.scalar (sig.barrier 0 rfl)) v111) Q := by
  rw [k0_part4_eq_skeleton]
  unfold k0_part4_skel
  simp only [semSignalWord, semWaitWord, Prog.lift, Prog.bind_op, Prog.bind_ret, Prog.pure_eq_ret]
  refine BIBase.Entails.trans sep_assoc_in ?_
  refine step_signal_word m ρ K c 10 _ (Fin.ext (k0_dev11_eq c)) ?_
  refine step_signal_word m ρ K c 11 _ (Fin.ext (k0_dev12_eq c)) ?_
  refine step_signal_word m ρ K c 12 _ (Fin.ext (k0_dev13_eq c)) ?_
  refine step_signal_word m ρ K c 13 _ (Fin.ext (k0_dev14_eq c)) ?_
  refine step_signal_word m ρ K c 14 _ (Fin.ext (k0_dev15_eq c)) ?_
  have hO : owedR c 0 + owedB c 15 = owedR c 0 := by rw [owedB_end, add_zero]
  have hsig : iprop(records m ρ K ∗ (ow c (owedR c 0 + owedB c 15) ∗ prog 15 (sigA (F := F) c) (fun _ => iprop(emp)))
        ∗ (wholeAt c cc0_stg0_0 (xstg m ρ c) ∗ (∃ f, wholeAt (F := F) c cc0_scratch1 f) ∗ cred (tallyAt (barCell c) () 15) ∗ atPos ER (barCell c) 0 ∅ 0 ∗ levAts L lv) ∗ P)
      ⊢ iprop(∃ f, records m ρ K ∗ wholeAt c cc0_stg0_0 (xstg m ρ c) ∗ (wholeAt (F := F) c cc0_scratch1 f
        ∗ (ow c (owedR c 0) ∗ cred (tallyAt (barCell c) () 15) ∗ atPos ER (barCell c) 0 ∅ 0 ∗ levAts L lv) ∗ P)) := by
    rw [hO]
    iintro ⟨#HR, ⟨HO, -⟩, ⟨Hx, ⟨%f, Hf⟩, Hc⟩, HP⟩
    iexists f
    isplitr; · iexact HR
    isplitl [Hx]; · iexact Hx
    isplitl [Hf]; · iexact Hf
    isplitl [HO Hc]
    · isplitl [HO] <;> iassumption
    iexact HP
  refine BIBase.Entails.trans hsig (exists_pre fun f => ?_)
  refine step_x m ρ K c ?_
  refine BIBase.Entails.trans swap_front ?_
  refine step_q m ρ K c f fun v => ?_
  refine step_cast m ρ K c f ?_
  refine BIBase.Entails.trans (Q := iprop(records m ρ K ∗ (ow c (owedR c 0) ∗ cred (tallyAt (barCell c) () 15) ∗ atPos ER (barCell c) 0 ∅ 0 ∗ levAts L lv)
    ∗ (wholeAt c cc0_stg0_0 (xstg m ρ c) ∗ wholeAt c cc0_scratch1 (xq m ρ c) ∗ P))) ?_ (step_barrier_word m ρ K c ?_)
  · iintro ⟨#HR, Hq, Hx, Hb, HP⟩
    isplitr; · iexact HR
    isplitl [Hb]; · iexact Hb
    isplitl [Hx]; · iexact Hx
    isplitl [Hq] <;> iassumption
  refine BIBase.Entails.trans ?_ (BIBase.Entails.trans (h _) (ret_step c _))
  iintro ⟨#HR, ⟨HO, Hat, Hc⟩, Hx, Hq, HP⟩
  isplitr; · iexact HR
  isplitr [HP]
  · isplitl [HO]; · iexact HO
    isplitl [Hx]; · iexact Hx
    isplitl [Hq]; · iexact Hq
    isplitl [Hat] <;> iassumption
  iexact HP

theorem part5_run (K : Dev nD × CI → ℕ) (c : Dev nD) (i : grid0.Coords) (h1 : k0_cond1 i = 1#1) (o : Memref sig .tc .vmem S256x512 .f32) (ho : o.IsWhole) (v2 : BitVec 32) (v135 : BitVec 32) (c16_i32_118 : BitVec 32)
    {Q : (PUnit) → sProp 𝕄} {P : sProp 𝕄}
    (h : ∀ a : PUnit, iprop(records m ρ K ∗ (ow c (owedR c 2) ∗ prog 2 (sendA m ρ c) (sendB (F := F) c)) ∗ P) ⊢ Q a) :
    iprop(records m ρ K ∗ (ow c (owedR c 0) ∗ prog 0 (sendA m ρ c) (sendB (F := F) c)) ∗ P) ⊢ run c (k0_part5 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1 v135 c16_i32_118) Q := by
  rw [k0_part5_eq_skeleton]
  unfold k0_part5_skel
  simp only [semSignalWord, semWaitWord, Prog.lift, Prog.bind_op, Prog.bind_ret, Prog.pure_eq_ret]
  refine step_send m ρ K c 0 _ (Fin.ext (k0_dev16_eq c)) (row_eq (nb c 0) _ (k0_off2_eq c 0)) (col_eq c _ (k0_off1_eq c)) rfl rfl ?_
  refine step_send m ρ K c 1 _ (Fin.ext (k0_dev17_eq c)) (row_eq (nb c 1) _ (k0_off2_eq c 1)) (col_eq c _ (k0_off1_eq c)) rfl rfl ?_
  exact BIBase.Entails.trans (h _) (ret_step c _)

theorem part6_run (K : Dev nD × CI → ℕ) (c : Dev nD) (i : grid0.Coords) (h1 : k0_cond1 i = 1#1) (o : Memref sig .tc .vmem S256x512 .f32) (ho : o.IsWhole) (v2 : BitVec 32)
    {Q : (BitVec 32) → sProp 𝕄} {P : sProp 𝕄}
    (h : ∀ a : BitVec 32, iprop(records m ρ K ∗ (ow c (owedR c 5) ∗ prog 5 (sendA m ρ c) (sendB (F := F) c)) ∗ P) ⊢ Q a) :
    iprop(records m ρ K ∗ (ow c (owedR c 2) ∗ prog 2 (sendA m ρ c) (sendB (F := F) c)) ∗ P) ⊢ run c (k0_part6 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part6_eq_skeleton]
  unfold k0_part6_skel
  simp only [semSignalWord, semWaitWord, Prog.lift, Prog.bind_op, Prog.bind_ret, Prog.pure_eq_ret]
  refine step_send m ρ K c 2 _ (Fin.ext (k0_dev18_eq c)) (row_eq (nb c 2) _ (k0_off2_eq c 2)) (col_eq c _ (k0_off1_eq c)) rfl rfl ?_
  refine step_send m ρ K c 3 _ (Fin.ext (k0_dev19_eq c)) (row_eq (nb c 3) _ (k0_off2_eq c 3)) (col_eq c _ (k0_off1_eq c)) rfl rfl ?_
  refine step_send m ρ K c 4 _ (Fin.ext (k0_dev20_eq c)) (row_eq (nb c 4) _ (k0_off2_eq c 4)) (col_eq c _ (k0_off1_eq c)) rfl rfl ?_
  exact BIBase.Entails.trans (h _) (ret_step c _)

theorem part7_run (K : Dev nD × CI → ℕ) (c : Dev nD) (i : grid0.Coords) (h1 : k0_cond1 i = 1#1) (o : Memref sig .tc .vmem S256x512 .f32) (ho : o.IsWhole) (v2 : BitVec 32) (v196 : BitVec 32)
    {Q : (PUnit) → sProp 𝕄} {P : sProp 𝕄}
    (h : ∀ a : PUnit, iprop(records m ρ K ∗ (ow c (owedR c 7) ∗ prog 7 (sendA m ρ c) (sendB (F := F) c)) ∗ P) ⊢ Q a) :
    iprop(records m ρ K ∗ (ow c (owedR c 5) ∗ prog 5 (sendA m ρ c) (sendB (F := F) c)) ∗ P) ⊢ run c (k0_part7 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1 v196) Q := by
  rw [k0_part7_eq_skeleton]
  unfold k0_part7_skel
  simp only [semSignalWord, semWaitWord, Prog.lift, Prog.bind_op, Prog.bind_ret, Prog.pure_eq_ret]
  refine step_send m ρ K c 5 _ (Fin.ext (k0_dev21_eq c)) (row_eq (nb c 5) _ (k0_off2_eq c 5)) (col_eq c _ (k0_off1_eq c)) rfl rfl ?_
  refine step_send m ρ K c 6 _ (Fin.ext (k0_dev22_eq c)) (row_eq (nb c 6) _ (k0_off2_eq c 6)) (col_eq c _ (k0_off1_eq c)) rfl rfl ?_
  exact BIBase.Entails.trans (h _) (ret_step c _)

theorem part8_run (K : Dev nD × CI → ℕ) (c : Dev nD) (i : grid0.Coords) (h1 : k0_cond1 i = 1#1) (o : Memref sig .tc .vmem S256x512 .f32) (ho : o.IsWhole) (v2 : BitVec 32)
    {Q : (Σ' (v259 : BitVec 32), BitVec 32) → sProp 𝕄} {P : sProp 𝕄}
    (h : ∀ a : Σ' (v259 : BitVec 32), BitVec 32, iprop(records m ρ K ∗ (ow c (owedR c 10) ∗ prog 10 (sendA m ρ c) (sendB (F := F) c)) ∗ P) ⊢ Q a) :
    iprop(records m ρ K ∗ (ow c (owedR c 7) ∗ prog 7 (sendA m ρ c) (sendB (F := F) c)) ∗ P) ⊢ run c (k0_part8 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part8_eq_skeleton]
  unfold k0_part8_skel
  simp only [semSignalWord, semWaitWord, Prog.lift, Prog.bind_op, Prog.bind_ret, Prog.pure_eq_ret]
  refine step_send m ρ K c 7 _ (Fin.ext (k0_dev23_eq c)) (row_eq (nb c 7) _ (k0_off2_eq c 7)) (col_eq c _ (k0_off1_eq c)) rfl rfl ?_
  refine step_send m ρ K c 8 _ (Fin.ext (k0_dev24_eq c)) (row_eq (nb c 8) _ (k0_off2_eq c 8)) (col_eq c _ (k0_off1_eq c)) rfl rfl ?_
  refine step_send m ρ K c 9 _ (Fin.ext (k0_dev25_eq c)) (row_eq (nb c 9) _ (k0_off2_eq c 9)) (col_eq c _ (k0_off1_eq c)) rfl rfl ?_
  exact BIBase.Entails.trans (h _) (ret_step c _)

theorem part9_run (K : Dev nD × CI → ℕ) (c : Dev nD) (i : grid0.Coords) (h1 : k0_cond1 i = 1#1) (o : Memref sig .tc .vmem S256x512 .f32) (ho : o.IsWhole) (v2 : BitVec 32) (v259 : BitVec 32) (c0_i32_223 : BitVec 32)
    {Q : (BitVec 32) → sProp 𝕄} {P : sProp 𝕄}
    (h : ∀ a : BitVec 32, iprop(records m ρ K ∗ (ow c (owedR c 13) ∗ prog 13 (sendA m ρ c) (sendB (F := F) c)) ∗ P) ⊢ Q a) :
    iprop(records m ρ K ∗ (ow c (owedR c 10) ∗ prog 10 (sendA m ρ c) (sendB (F := F) c)) ∗ P) ⊢ run c (k0_part9 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1 v259 c0_i32_223) Q := by
  rw [k0_part9_eq_skeleton]
  unfold k0_part9_skel
  simp only [semSignalWord, semWaitWord, Prog.lift, Prog.bind_op, Prog.bind_ret, Prog.pure_eq_ret]
  refine step_send m ρ K c 10 _ (Fin.ext (k0_dev26_eq c)) (row_eq (nb c 10) _ (k0_off2_eq c 10)) (col_eq c _ (k0_off1_eq c)) rfl rfl ?_
  refine step_send m ρ K c 11 _ (Fin.ext (k0_dev27_eq c)) (row_eq (nb c 11) _ (k0_off2_eq c 11)) (col_eq c _ (k0_off1_eq c)) rfl rfl ?_
  refine step_send m ρ K c 12 _ (Fin.ext (k0_dev28_eq c)) (row_eq (nb c 12) _ (k0_off2_eq c 12)) (col_eq c _ (k0_off1_eq c)) rfl rfl ?_
  exact BIBase.Entails.trans (h _) (ret_step c _)

theorem part10_run (K : Dev nD × CI → ℕ) (c : Dev nD) (i : grid0.Coords) (h1 : k0_cond1 i = 1#1) (o : Memref sig .tc .vmem S256x512 .f32) (ho : o.IsWhole) (v2 : BitVec 32) (v292 : BitVec 32)
    {Q : (Σ' (v324 : BitVec 32), BitVec 32) → sProp 𝕄} {P : sProp 𝕄}
    (h : ∀ a : Σ' (v324 : BitVec 32), BitVec 32, iprop(records m ρ K ∗ ((ow c (owedR c 15) ∗ prog 15 (sendA m ρ c) (sendB (F := F) c)) ∗ rowPts c c (xq m ρ c) ∗ colPts c c (xgAll m ρ c)) ∗ P) ⊢ Q a) :
    iprop(records m ρ K ∗ ((ow c (owedR c 13) ∗ prog 13 (sendA m ρ c) (sendB (F := F) c)) ∗ rowPts c c (xq m ρ c) ∗ ∃ f, colPts (F := F) c c f) ∗ P) ⊢ run c (k0_part10 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1 v292) Q := by
  rw [k0_part10_eq_skeleton]
  unfold k0_part10_skel
  simp only [semSignalWord, semWaitWord, Prog.lift, Prog.bind_op, Prog.bind_ret, Prog.pure_eq_ret]
  refine BIBase.Entails.trans sep_assoc_in ?_
  refine step_send m ρ K c 13 _ (Fin.ext (k0_dev29_eq c)) (row_eq (nb c 13) _ (k0_off2_eq c 13)) (col_eq c _ (k0_off1_eq c)) rfl rfl ?_
  refine step_send m ρ K c 14 _ (Fin.ext (k0_dev30_eq c)) (row_eq (nb c 14) _ (k0_off2_eq c 14)) (col_eq c _ (k0_off1_eq c)) rfl rfl ?_
  have hown : iprop(records m ρ K ∗ (ow c (owedR c 15) ∗ prog 15 (sendA m ρ c) (sendB (F := F) c)) ∗ (rowPts c c (xq m ρ c) ∗ ∃ f, colPts (F := F) c c f) ∗ P)
      ⊢ iprop(∃ f, records m ρ K ∗ rowPts c c (xq m ρ c) ∗ (colPts (F := F) c c f ∗ (ow c (owedR c 15) ∗ prog 15 (sendA m ρ c) (sendB (F := F) c)) ∗ P)) := by
    iintro ⟨#HR, HO, ⟨Hr, ⟨%f, Hf⟩⟩, HP⟩
    iexists f
    isplitr; · iexact HR
    isplitl [Hr]; · iexact Hr
    isplitl [Hf]; · iexact Hf
    isplitl [HO] <;> iassumption
  refine BIBase.Entails.trans hown (exists_pre fun f => ?_)
  refine step_own_row m ρ K c (k0_off3_eq c) ?_
  refine BIBase.Entails.trans swap_front ?_
  refine step_own_col m ρ K c (k0_off4_eq c) f fun v => ?_
  refine step_own_store m ρ K c (k0_off3_eq c) (k0_off4_eq c) f ?_
  refine BIBase.Entails.trans ?_ (BIBase.Entails.trans (h _) (ret_step c _))
  iintro ⟨#HR, Hf, Hr, HO, HP⟩
  isplitr; · iexact HR
  isplitr [HP]
  · isplitl [HO]; · iexact HO
    isplitl [Hr] <;> iassumption
  iexact HP

theorem part11_run (K : Dev nD × CI → ℕ) (c : Dev nD) (i : grid0.Coords) (h1 : k0_cond1 i = 1#1) (o : Memref sig .tc .vmem S256x512 .f32) (ho : o.IsWhole) (v2 : BitVec 32) (v324 : BitVec 32) (c256_i32_272 : BitVec 32)
    {Q : (BitVec 32) → sProp 𝕄} {P : sProp 𝕄}
    (h : ∀ a : BitVec 32, iprop(records m ρ K ∗ (ow c 0 ∗ prog 3 (recvA (F := F) c) (recvB m ρ c)) ∗ P) ⊢ Q a) :
    iprop(records m ρ K ∗ (ow c 0 ∗ prog 0 (recvA (F := F) c) (recvB m ρ c)) ∗ P) ⊢ run c (k0_part11 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1 v324 c256_i32_272) Q := by
  rw [k0_part11_eq_skeleton]
  unfold k0_part11_skel
  simp only [semSignalWord, semWaitWord, Prog.lift, Prog.bind_op, Prog.bind_ret, Prog.pure_eq_ret]
  refine step_recv m ρ K c 0 rfl (col_credit (nb c 14) _ (k0_off5_eq c 14)) ?_
  refine step_recv m ρ K c 1 rfl (col_credit (nb c 13) _ (k0_off5_eq c 13)) ?_
  refine step_recv m ρ K c 2 rfl (col_credit (nb c 12) _ (k0_off5_eq c 12)) ?_
  exact BIBase.Entails.trans (h _) (ret_step c _)

theorem part12_run (K : Dev nD × CI → ℕ) (c : Dev nD) (i : grid0.Coords) (h1 : k0_cond1 i = 1#1) (o : Memref sig .tc .vmem S256x512 .f32) (ho : o.IsWhole) (v2 : BitVec 32) (v353 : BitVec 32)
    {Q : (PUnit) → sProp 𝕄} {P : sProp 𝕄}
    (h : ∀ a : PUnit, iprop(records m ρ K ∗ (ow c 0 ∗ prog 5 (recvA (F := F) c) (recvB m ρ c)) ∗ P) ⊢ Q a) :
    iprop(records m ρ K ∗ (ow c 0 ∗ prog 3 (recvA (F := F) c) (recvB m ρ c)) ∗ P) ⊢ run c (k0_part12 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1 v353) Q := by
  rw [k0_part12_eq_skeleton]
  unfold k0_part12_skel
  simp only [semSignalWord, semWaitWord, Prog.lift, Prog.bind_op, Prog.bind_ret, Prog.pure_eq_ret]
  refine step_recv m ρ K c 3 rfl (col_credit (nb c 11) _ (k0_off5_eq c 11)) ?_
  refine step_recv m ρ K c 4 rfl (col_credit (nb c 10) _ (k0_off5_eq c 10)) ?_
  exact BIBase.Entails.trans (h _) (ret_step c _)

theorem part13_run (K : Dev nD × CI → ℕ) (c : Dev nD) (i : grid0.Coords) (h1 : k0_cond1 i = 1#1) (o : Memref sig .tc .vmem S256x512 .f32) (ho : o.IsWhole) (v2 : BitVec 32)
    {Q : (PUnit) → sProp 𝕄} {P : sProp 𝕄}
    (h : ∀ a : PUnit, iprop(records m ρ K ∗ (ow c 0 ∗ prog 8 (recvA (F := F) c) (recvB m ρ c)) ∗ P) ⊢ Q a) :
    iprop(records m ρ K ∗ (ow c 0 ∗ prog 5 (recvA (F := F) c) (recvB m ρ c)) ∗ P) ⊢ run c (k0_part13 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part13_eq_skeleton]
  unfold k0_part13_skel
  simp only [semSignalWord, semWaitWord, Prog.lift, Prog.bind_op, Prog.bind_ret, Prog.pure_eq_ret]
  refine step_recv m ρ K c 5 rfl (col_credit (nb c 9) _ (k0_off5_eq c 9)) ?_
  refine step_recv m ρ K c 6 rfl (col_credit (nb c 8) _ (k0_off5_eq c 8)) ?_
  refine step_recv m ρ K c 7 rfl (col_credit (nb c 7) _ (k0_off5_eq c 7)) ?_
  exact BIBase.Entails.trans (h _) (ret_step c _)

theorem part14_run (K : Dev nD × CI → ℕ) (c : Dev nD) (i : grid0.Coords) (h1 : k0_cond1 i = 1#1) (o : Memref sig .tc .vmem S256x512 .f32) (ho : o.IsWhole) (v2 : BitVec 32)
    {Q : (PUnit) → sProp 𝕄} {P : sProp 𝕄}
    (h : ∀ a : PUnit, iprop(records m ρ K ∗ (ow c 0 ∗ prog 11 (recvA (F := F) c) (recvB m ρ c)) ∗ P) ⊢ Q a) :
    iprop(records m ρ K ∗ (ow c 0 ∗ prog 8 (recvA (F := F) c) (recvB m ρ c)) ∗ P) ⊢ run c (k0_part14 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part14_eq_skeleton]
  unfold k0_part14_skel
  simp only [semSignalWord, semWaitWord, Prog.lift, Prog.bind_op, Prog.bind_ret, Prog.pure_eq_ret]
  refine step_recv m ρ K c 8 rfl (col_credit (nb c 6) _ (k0_off5_eq c 6)) ?_
  refine step_recv m ρ K c 9 rfl (col_credit (nb c 5) _ (k0_off5_eq c 5)) ?_
  refine step_recv m ρ K c 10 rfl (col_credit (nb c 4) _ (k0_off5_eq c 4)) ?_
  exact BIBase.Entails.trans (h _) (ret_step c _)

theorem part15_run (K : Dev nD × CI → ℕ) (c : Dev nD) (i : grid0.Coords) (h1 : k0_cond1 i = 1#1) (o : Memref sig .tc .vmem S256x512 .f32) (ho : o.IsWhole) (v2 : BitVec 32)
    {Q : (Σ' (v464 : BitVec 32), BitVec 32) → sProp 𝕄} {P : sProp 𝕄}
    (h : ∀ a : Σ' (v464 : BitVec 32), BitVec 32, iprop(records m ρ K ∗ (ow c 0 ∗ prog 14 (recvA (F := F) c) (recvB m ρ c)) ∗ P) ⊢ Q a) :
    iprop(records m ρ K ∗ (ow c 0 ∗ prog 11 (recvA (F := F) c) (recvB m ρ c)) ∗ P) ⊢ run c (k0_part15 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part15_eq_skeleton]
  unfold k0_part15_skel
  simp only [semSignalWord, semWaitWord, Prog.lift, Prog.bind_op, Prog.bind_ret, Prog.pure_eq_ret]
  refine step_recv m ρ K c 11 rfl (col_credit (nb c 3) _ (k0_off5_eq c 3)) ?_
  refine step_recv m ρ K c 12 rfl (col_credit (nb c 2) _ (k0_off5_eq c 2)) ?_
  refine step_recv m ρ K c 13 rfl (col_credit (nb c 1) _ (k0_off5_eq c 1)) ?_
  exact BIBase.Entails.trans (h _) (ret_step c _)

/-! ## The parts of the last point, which waits for the own copies to have left -/

theorem part16_run (K : Dev nD × CI → ℕ) (c : Dev nD) (i : grid0.Coords) (h1 : k0_cond3 i = 1#1) (o : Memref sig .tc .vmem S256x512 .f32) (ho : o.IsWhole) (v2 : BitVec 32)
    {Q : (PUnit) → sProp 𝕄} {P : sProp 𝕄}
    (h : ∀ a : PUnit, iprop(records m ρ K ∗ (ow c 0 ∗ prog 3 (drainA (F := F) c) (drainB m ρ c)) ∗ P) ⊢ Q a) :
    iprop(records m ρ K ∗ (ow c 0 ∗ prog 0 (drainA (F := F) c) (drainB m ρ c)) ∗ P) ⊢ run c (k0_part16 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part16_eq_skeleton]
  unfold k0_part16_skel
  simp only [semSignalWord, semWaitWord, Prog.lift, Prog.bind_op, Prog.bind_ret, Prog.pure_eq_ret]
  refine step_drain m ρ K c 0 rfl (row_credit (nb c 0) _ (k0_off13_eq c 0)) ?_
  refine step_drain m ρ K c 1 rfl (row_credit (nb c 1) _ (k0_off13_eq c 1)) ?_
  refine step_drain m ρ K c 2 rfl (row_credit (nb c 2) _ (k0_off13_eq c 2)) ?_
  exact BIBase.Entails.trans (h _) (ret_step c _)

theorem part17_run (K : Dev nD × CI → ℕ) (c : Dev nD) (i : grid0.Coords) (h1 : k0_cond3 i = 1#1) (o : Memref sig .tc .vmem S256x512 .f32) (ho : o.IsWhole) (v2 : BitVec 32)
    {Q : (PUnit) → sProp 𝕄} {P : sProp 𝕄}
    (h : ∀ a : PUnit, iprop(records m ρ K ∗ (ow c 0 ∗ prog 6 (drainA (F := F) c) (drainB m ρ c)) ∗ P) ⊢ Q a) :
    iprop(records m ρ K ∗ (ow c 0 ∗ prog 3 (drainA (F := F) c) (drainB m ρ c)) ∗ P) ⊢ run c (k0_part17 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part17_eq_skeleton]
  unfold k0_part17_skel
  simp only [semSignalWord, semWaitWord, Prog.lift, Prog.bind_op, Prog.bind_ret, Prog.pure_eq_ret]
  refine step_drain m ρ K c 3 rfl (row_credit (nb c 3) _ (k0_off13_eq c 3)) ?_
  refine step_drain m ρ K c 4 rfl (row_credit (nb c 4) _ (k0_off13_eq c 4)) ?_
  refine step_drain m ρ K c 5 rfl (row_credit (nb c 5) _ (k0_off13_eq c 5)) ?_
  exact BIBase.Entails.trans (h _) (ret_step c _)

theorem part18_run (K : Dev nD × CI → ℕ) (c : Dev nD) (i : grid0.Coords) (h1 : k0_cond3 i = 1#1) (o : Memref sig .tc .vmem S256x512 .f32) (ho : o.IsWhole) (v2 : BitVec 32)
    {Q : (PUnit) → sProp 𝕄} {P : sProp 𝕄}
    (h : ∀ a : PUnit, iprop(records m ρ K ∗ (ow c 0 ∗ prog 10 (drainA (F := F) c) (drainB m ρ c)) ∗ P) ⊢ Q a) :
    iprop(records m ρ K ∗ (ow c 0 ∗ prog 6 (drainA (F := F) c) (drainB m ρ c)) ∗ P) ⊢ run c (k0_part18 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part18_eq_skeleton]
  unfold k0_part18_skel
  simp only [semSignalWord, semWaitWord, Prog.lift, Prog.bind_op, Prog.bind_ret, Prog.pure_eq_ret]
  refine step_drain m ρ K c 6 rfl (row_credit (nb c 6) _ (k0_off13_eq c 6)) ?_
  refine step_drain m ρ K c 7 rfl (row_credit (nb c 7) _ (k0_off13_eq c 7)) ?_
  refine step_drain m ρ K c 8 rfl (row_credit (nb c 8) _ (k0_off13_eq c 8)) ?_
  refine step_drain m ρ K c 9 rfl (row_credit (nb c 9) _ (k0_off13_eq c 9)) ?_
  exact BIBase.Entails.trans (h _) (ret_step c _)

theorem part19_run (K : Dev nD × CI → ℕ) (c : Dev nD) (i : grid0.Coords) (h1 : k0_cond3 i = 1#1) (o : Memref sig .tc .vmem S256x512 .f32) (ho : o.IsWhole) (v2 : BitVec 32)
    {Q : (PUnit) → sProp 𝕄} {P : sProp 𝕄}
    (h : ∀ a : PUnit, iprop(records m ρ K ∗ (ow c 0 ∗ prog 13 (drainA (F := F) c) (drainB m ρ c)) ∗ P) ⊢ Q a) :
    iprop(records m ρ K ∗ (ow c 0 ∗ prog 10 (drainA (F := F) c) (drainB m ρ c)) ∗ P) ⊢ run c (k0_part19 i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5 c v2 h1) Q := by
  rw [k0_part19_eq_skeleton]
  unfold k0_part19_skel
  simp only [semSignalWord, semWaitWord, Prog.lift, Prog.bind_op, Prog.bind_ret, Prog.pure_eq_ret]
  refine step_drain m ρ K c 10 rfl (row_credit (nb c 10) _ (k0_off13_eq c 10)) ?_
  refine step_drain m ρ K c 11 rfl (row_credit (nb c 11) _ (k0_off13_eq c 11)) ?_
  refine step_drain m ρ K c 12 rfl (row_credit (nb c 12) _ (k0_off13_eq c 12)) ?_
  exact BIBase.Entails.trans (h _) (ret_step c _)

end Cert.KernelIdeal.Hand

end
-- ==== Proof.Ideal.Point.lean ====
/-
A grid point up to its block of results: the first point, with the exchange, and the later ones.
-/
module

public import proofs.«01_k».proof.Proof.Ideal.Parts

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## From the launch's holdings to the exchange's -/

/-- A family over a device's cells, kind by kind. -/
theorem cells_split (Φ : CI → sProp 𝕄) :
    bigSep Finset.univ Φ = iprop(Φ iBar ∗ (bigSep Finset.univ fun s => Φ (iW s)) ∗ (bigSep Finset.univ fun r => Φ (iSend r))
      ∗ (bigSep Finset.univ fun r => Φ (iRecv r)) ∗ bigSep Finset.univ fun b => Φ (iIdle b)) := by
  rw [BI.bigSep_univ_sum, BI.bigSep_univ_sum, BI.bigSep_univ_sum, BI.bigSep_univ_sum, Finset.univ_unique, bigSep_singleton]
  rfl

/-- A kept device's holdings other than its gathered matrix. -/
def keptRest (c : Dev nD) : sProp 𝕄 :=
  iprop(rowPts c c (xq m ρ c) ∗ prog 0 (drainA (F := F) c) (drainB m ρ c)
    ∗ (bigSep Finset.univ fun r : Fin 15 => atPos ER (recvCell c r) 1 ∅ 0) ∗ atPos ER (barCell c) 1 ∅ 0
    ∗ bigSep Finset.univ fun b : Bool => atPos ER (idleCell c b) 0 ∅ 0)

/-- What the sends need besides the cast block: the tokens of the departures and of the arrivals that they owe. -/
def sendToks (c : Dev nD) : sProp 𝕄 :=
  iprop((bigSep Finset.univ fun r : Fin 15 => dutyTok ER (sendCell c r) 0 0) ∗ bigSep Finset.univ fun r : Fin 15 => dutyTok ER (recvCell (nb c r) r) 0 0)
/-- What is set aside for the waits: the credits of the arrivals, the positions of all cells but the barrier and the ring. -/
def waits₀ (c : Dev nD) : sProp 𝕄 :=
  iprop((bigSep Finset.univ fun r : Fin 15 => cred (tallyAt (recvCell c r) () NX)) ∗ (bigSep Finset.univ fun r : Fin 15 => atPos ER (sendCell c r) 0 ∅ 0)
    ∗ (bigSep Finset.univ fun r : Fin 15 => atPos ER (recvCell c r) 0 ∅ 0) ∗ bigSep Finset.univ fun b : Bool => atPos ER (idleCell c b) 0 ∅ 0)

/-- The first point's start, arranged for the exchange. -/
theorem first_ready (c : Dev nD) :
    iprop((start m ρ c ∗ scratches (F := F) c) ∗ ow c (O₀ c)) ⊢ iprop(∃ K, records m ρ K ∗ ring m ρ c 0 0
      ∗ (ow c (owedR c 0 + owedB c 0) ∗ prog 0 (sigA (F := F) c) (fun _ => iprop(emp)))
      ∗ ((∃ f, wholeAt (F := F) c cc0_scratch1 f) ∗ cred (tallyAt (barCell c) () 15) ∗ atPos ER (barCell c) 0 ∅ 0 ∗ levAts L lv)
      ∗ (∃ f, colPts (F := F) c c f) ∗ sendToks (F := F) c ∗ waits₀ (F := F) c) := by
  have hsig : ∀ f : Buf (Elt F) ((c : Thread nD τ).loc cc0_scratch2),
      iprop((bigSep Finset.univ fun r : Fin 15 => dutyTok ER (barCell (nb c r)) 0 r) ∗ bigSep Finset.univ fun r : Fin 15 => colPts c (nb c r) f)
      ⊢ prog 0 (sigA (F := F) c) (fun _ => iprop(emp)) := by
    intro f
    have hone : ∀ r : Fin 15, iprop(dutyTok ER (barCell (nb c r)) 0 r ∗ colPts c (nb c r) f) ⊢ sigA (F := F) c r := by
      intro r
      unfold sigA
      iintro ⟨H1, H2⟩
      isplitl [H1]; · iexact H1
      iexists f; iexact H2
    rw [prog_zero, ← bigSep_sep']
    exact bigSep_mono fun r _ => hone r
  unfold start ghost places tokens credits scratches sendToks waits₀
  rw [cells_split]
  iintro ⟨⟨⟨⟨%K, #HR, ⟨HpB, HpW, HpS, HpV, HpI⟩, HtB, HtW, HtS, HtV⟩, Hlev, ⟨HcB, HcV⟩, Hw⟩, H0, H1, ⟨%f2, H2⟩⟩, HO⟩
  ihave Hcols := (Entails.of_eq (cols_split c f2)) $$ H2
  ihave Hcols' := (Entails.of_eq (devs_after c fun s => colPts c s f2)) $$ Hcols
  icases Hcols' with ⟨Hown, Hothers⟩
  iexists K
  isplitr; · iexact HR
  isplitl [Hw H0 HtW HpW]
  · iapply (ring_start m ρ c K)
    isplitr; · iexact HR
    isplitl [Hw]; · iexact Hw
    isplitl [H0]; · iexact H0
    isplitl [HtW] <;> iassumption
  isplitl [HO HtB Hothers]
  · isplitl [HO]; · iexact HO
    iapply (hsig f2)
    isplitl [HtB] <;> iassumption
  isplitl [H1 HcB HpB Hlev]
  · isplitl [H1]; · iexact H1
    isplitl [HcB]; · iexact HcB
    isplitl [HpB] <;> iassumption
  isplitl [Hown]; · iexists f2; iexact Hown
  isplitl [HtS HtV]
  · isplitl [HtS] <;> iassumption
  isplitl [HcV]; · iexact HcV
  isplitl [HpS]; · iexact HpS
  isplitl [HpV] <;> iassumption

/-- The cast block and the freed columns of the neighbours, arranged for the sends. -/
theorem send_ready (c : Dev nD) :
    iprop(wholeAt c cc0_scratch1 (xq m ρ c) ∗ sendToks (F := F) c ∗ bigSep Finset.univ fun r : Fin 15 => iprop(∃ f, colPts (F := F) (nb c r) c f))
      ⊢ iprop(rowPts c c (xq m ρ c) ∗ prog 0 (sendA m ρ c) (sendB (F := F) c)) := by
  unfold sendToks wholeAt
  rw [prog_zero, rows_split, devs_after c fun s => rowPts c s (xq m ρ c)]
  have hall : iprop((bigSep Finset.univ fun r : Fin 15 => dutyTok ER (sendCell c r) 0 0) ∗ (bigSep Finset.univ fun r : Fin 15 => dutyTok ER (recvCell (nb c r) r) 0 0)
      ∗ (bigSep Finset.univ fun r : Fin 15 => rowPts c (nb c r) (xq m ρ c)) ∗ bigSep Finset.univ fun r : Fin 15 => iprop(∃ f, colPts (F := F) (nb c r) c f))
      ⊢ bigSep Finset.univ fun r : Fin 15 => sendA m ρ c r := by
    rw [← bigSep_sep', ← bigSep_sep', ← bigSep_sep']
    exact Entails.of_eq (bigSep_congr fun r _ => rfl)
  iintro ⟨⟨Hr, Hrs⟩, ⟨Hs, Hv⟩, Hc⟩
  isplitl [Hr]; · iexact Hr
  iapply hall
  isplitl [Hs]; · iexact Hs
  isplitl [Hv]; · iexact Hv
  isplitl [Hrs] <;> iassumption

theorem recv_ready (c : Dev nD) :
    iprop((bigSep Finset.univ fun r : Fin 15 => cred (tallyAt (recvCell c r) () NX)) ∗ bigSep Finset.univ fun r : Fin 15 => atPos ER (recvCell c r) 0 ∅ 0)
      ⊢ prog 0 (recvA (F := F) c) (recvB m ρ c) := by
  rw [prog_zero, ← bigSep_sep']
  exact Entails.of_eq (bigSep_congr fun r _ => rfl)

theorem drain_ready (c : Dev nD) :
    iprop(prog 15 (sendA m ρ c) (sendB (F := F) c) ∗ bigSep Finset.univ fun r : Fin 15 => atPos ER (sendCell c r) 0 ∅ 0)
      ⊢ prog 0 (drainA (F := F) c) (drainB m ρ c) := by
  rw [prog_zero, prog_end, ← bigSep_sep']
  exact Entails.of_eq (bigSep_congr fun r _ => rfl)

/-- All columns arrived: the gathered matrix is whole. -/
theorem recv_done (c : Dev nD) :
    iprop(prog 15 (recvA (F := F) c) (recvB m ρ c) ∗ colPts c c (xgAll m ρ c))
      ⊢ iprop(wholeAt c cc0_scratch2 (xgAll m ρ c) ∗ bigSep Finset.univ fun r : Fin 15 => atPos ER (recvCell c r) 1 ∅ 0) := by
  have hs : (bigSep Finset.univ fun r : Fin 15 => recvB m ρ c r)
      = iprop((bigSep Finset.univ fun r : Fin 15 => atPos ER (recvCell c r) 1 ∅ 0) ∗ bigSep Finset.univ fun r : Fin 15 => colPts c (pb c r) (xgAll m ρ c)) := by
    rw [← bigSep_sep']; rfl
  unfold wholeAt
  rw [prog_end, hs, cols_split, devs_before c fun s => colPts c s (xgAll m ρ c)]
  iintro ⟨⟨Ha, Hc⟩, H⟩
  isplitr [Ha]
  · isplitl [H] <;> iassumption
  iexact Ha

/-! ## The value part of a point -/

/-- What a point holds when its value is computed: the gathered matrix, the staged arguments, its debt gone, the ring one
    block on, and the result's staging buffer. -/
def after (c : Dev nD) (t : ℕ) (o : Memref sig .tc .vmem S256x512 .f32) : sProp 𝕄 :=
  iprop(wholeAt c cc0_scratch2 (xgAll m ρ c) ∗ wholeAt c cc0_stg1_0 (sxstg m ρ c) ∗ wholeAt c cc0_stg2_0 (systg m ρ c)
    ∗ (ow c 0 ∗ ring m ρ c (t + 1) (min 16 (t + 7)) ∗ (wholeAt c cc0_stg0_0 (xstg m ρ c) ∗ keptRest m ρ c ∗ ∃ X, owns (c : Thread nD τ) o fullShare X)))

/-- The staged arguments and the result's staging buffer. -/
def staged (c : Dev nD) (o : Memref sig .tc .vmem S256x512 .f32) : sProp 𝕄 :=
  iprop(wholeAt c cc0_stg0_0 (xstg m ρ c) ∗ wholeAt c cc0_stg1_0 (sxstg m ρ c) ∗ wholeAt c cc0_stg2_0 (systg m ρ c)
    ∗ ∃ X, owns (c : Thread nD τ) o fullShare X)

/-- A point past the first. -/
theorem part20_next (K : Dev nD × CI → ℕ) (c : Dev nD) (t : Fin cfg0.N) (ht : t.val ≠ 0) (o : Memref sig .tc .vmem S256x512 .f32) (ho : o.IsWhole)
    {Q : (Σ' (arg0 : BitVec 32) (d0 : Dev nD) (v2 : BitVec 32), FVec F S256x512 .f32) → sProp 𝕄}
    (h : ∀ a v, iprop(records m ρ K ∗ after m ρ c t.val o) ⊢ Q ⟨a, c, v, outAt m ρ c (blkNo t)⟩) :
    iprop(records m ρ K ∗ ow c 0 ∗ (ring m ρ c t.val (min 16 (t.val + 6)) ∗ kept m ρ c) ∗ staged m ρ c o)
      ⊢ run c (k0_part20 (grid0.coords t) (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5) Q := by
  rw [part20_later c (grid0.coords t) (fun h => ht ((cond1_iff t).mp h)) o ho]
  refine BIBase.Entails.trans ?_ (rest_run m ρ K c t (P := iprop(wholeAt c cc0_stg0_0 (xstg m ρ c) ∗ keptRest m ρ c ∗ ∃ X, owns (c : Thread nD τ) o fullShare X)) h)
  unfold kept staged keptRest
  iintro ⟨#HR, HO, ⟨Hring, Hx2, Hk⟩, H0, H1, H2, HX⟩
  isplitr; · iexact HR
  isplitl [HO Hring]
  · isplitl [HO] <;> iassumption
  isplitl [Hx2]; · iexact Hx2
  isplitl [H1]; · iexact H1
  isplitl [H2]; · iexact H2
  isplitl [H0]; · iexact H0
  isplitl [Hk] <;> iassumption

/-- The first point: the ring filled, the barrier, the exchange, and then as any other. -/
theorem part20_first (K : Dev nD × CI → ℕ) (c : Dev nD) (t : Fin cfg0.N) (ht : t.val = 0) (o : Memref sig .tc .vmem S256x512 .f32) (ho : o.IsWhole)
    {Q : (Σ' (arg0 : BitVec 32) (d0 : Dev nD) (v2 : BitVec 32), FVec F S256x512 .f32) → sProp 𝕄}
    (h : ∀ a v, iprop(records m ρ K ∗ after m ρ c t.val o) ⊢ Q ⟨a, c, v, outAt m ρ c (blkNo t)⟩) :
    iprop(records m ρ K ∗ (ring m ρ c 0 0
      ∗ (ow c (owedR c 0 + owedB c 0) ∗ prog 0 (sigA (F := F) c) (fun _ => iprop(emp)))
      ∗ ((∃ f, wholeAt (F := F) c cc0_scratch1 f) ∗ cred (tallyAt (barCell c) () 15) ∗ atPos ER (barCell c) 0 ∅ 0 ∗ levAts L lv)
      ∗ (∃ f, colPts (F := F) c c f) ∗ sendToks (F := F) c ∗ waits₀ (F := F) c) ∗ staged m ρ c o)
      ⊢ run c (k0_part20 (grid0.coords t) (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5) Q := by
  have h1 : k0_cond1 (grid0.coords t) = 1#1 := (cond1_iff t).mpr ht
  have hrest := rest_run m ρ K c t (P := iprop(wholeAt c cc0_stg0_0 (xstg m ρ c) ∗ keptRest m ρ c ∗ ∃ X, owns (c : Thread nD τ) o fullShare X)) h
  rw [show ring m ρ c t.val (min 16 (t.val + 6)) = ring m ρ c 0 6 by rw [ht]; rfl] at hrest
  unfold run at hrest ⊢
  rw [k0_part20_eq_skeleton]
  unfold k0_part20_skel
  simp only [Prog.lift, Prog.bind_op, Prog.bind_ret, Prog.pure_eq_ret, wp_deviceId, dif_pos h1, wp_bind]
  -- the ring is filled
  refine BIBase.Entails.trans (Q := iprop(records m ρ K ∗ ring m ρ c 0 0 ∗ ((ow c (owedR c 0 + owedB c 0) ∗ prog 0 (sigA (F := F) c) (fun _ => iprop(emp)))
      ∗ (wholeAt c cc0_stg0_0 (xstg m ρ c) ∗ (∃ f, wholeAt (F := F) c cc0_scratch1 f) ∗ cred (tallyAt (barCell c) () 15) ∗ atPos ER (barCell c) 0 ∅ 0 ∗ levAts L lv)
      ∗ (∃ f, colPts (F := F) c c f) ∗ sendToks (F := F) c ∗ waits₀ (F := F) c
      ∗ wholeAt c cc0_stg1_0 (sxstg m ρ c) ∗ wholeAt c cc0_stg2_0 (systg m ρ c) ∗ ∃ X, owns (c : Thread nD τ) o fullShare X))) ?_ (part1_run m ρ K c _ o ho fun _ => ?_)
  · unfold staged
    iintro ⟨#HR, ⟨Hring, Hsig, ⟨Hq, Hb⟩, Hcol, Htok, Hw⟩, H0, H1⟩
    isplitr; · iexact HR
    isplitl [Hring]; · iexact Hring
    isplitl [Hsig]; · iexact Hsig
    isplitl [Hq Hb H0]
    · isplitl [H0]; · iexact H0
      isplitl [Hq] <;> iassumption
    isplitl [Hcol]; · iexact Hcol
    isplitl [Htok]; · iexact Htok
    isplitl [Hw] <;> iassumption
  refine BIBase.Entails.trans sep_assoc_out (part2_run m ρ K c _ h1 o ho _ fun v2 => ?_)
  -- the signals, the cast, the barrier
  refine BIBase.Entails.trans sep_assoc_in (BIBase.Entails.trans swap_front (part3_run m ρ K c _ h1 o ho _ _ fun v3 => ?_))
  refine BIBase.Entails.trans (Q := iprop(records m ρ K ∗ ((ow c (owedR c 0 + owedB c 10) ∗ prog 10 (sigA (F := F) c) (fun _ => iprop(emp)))
      ∗ wholeAt c cc0_stg0_0 (xstg m ρ c) ∗ (∃ f, wholeAt (F := F) c cc0_scratch1 f) ∗ cred (tallyAt (barCell c) () 15) ∗ atPos ER (barCell c) 0 ∅ 0 ∗ levAts L lv)
      ∗ (ring m ρ c 0 6 ∗ (∃ f, colPts (F := F) c c f) ∗ sendToks (F := F) c ∗ waits₀ (F := F) c
      ∗ wholeAt c cc0_stg1_0 (sxstg m ρ c) ∗ wholeAt c cc0_stg2_0 (systg m ρ c) ∗ ∃ X, owns (c : Thread nD τ) o fullShare X))) ?_ (part4_run m ρ K c _ h1 o ho _ _ fun v4 => ?_)
  · iintro ⟨#HR, Hsig, Hring, Hb, Hcol⟩
    isplitr; · iexact HR
    isplitl [Hsig Hb]
    · isplitl [Hsig] <;> iassumption
    isplitl [Hring] <;> iassumption
  -- the sends
  refine BIBase.Entails.trans (Q := iprop(records m ρ K ∗ (ow c (owedR c 0) ∗ prog 0 (sendA m ρ c) (sendB (F := F) c))
      ∗ ((rowPts c c (xq m ρ c) ∗ ∃ f, colPts (F := F) c c f) ∗ (wholeAt c cc0_stg0_0 (xstg m ρ c) ∗ atPos ER (barCell c) 1 ∅ 0 ∗ ring m ρ c 0 6 ∗ waits₀ (F := F) c
      ∗ wholeAt c cc0_stg1_0 (sxstg m ρ c) ∗ wholeAt c cc0_stg2_0 (systg m ρ c) ∗ ∃ X, owns (c : Thread nD τ) o fullShare X)))) ?_ (part5_run m ρ K c _ h1 o ho _ _ _ fun _ => ?_)
  · iintro ⟨#HR, ⟨HO, H0, Hq, Hat, Hcs⟩, Hring, Hcol, Htok, Hw⟩
    ihave Hs := (send_ready m ρ c) $$ [Hq Htok Hcs]
    · isplitl [Hq]; · iexact Hq
      isplitl [Htok] <;> iassumption
    icases Hs with ⟨Hrow, Hs⟩
    isplitr; · iexact HR
    isplitl [HO Hs]
    · isplitl [HO] <;> iassumption
    isplitl [Hrow Hcol]
    · isplitl [Hrow] <;> iassumption
    isplitl [H0]; · iexact H0
    isplitl [Hat]; · iexact Hat
    isplitl [Hring] <;> iassumption
  refine part6_run m ρ K c _ h1 o ho _ fun v6 => ?_
  refine part7_run m ρ K c _ h1 o ho _ _ fun _ => ?_
  refine part8_run m ρ K c _ h1 o ho _ fun v8 => ?_
  refine part9_run m ρ K c _ h1 o ho _ _ _ fun v9 => ?_
  refine BIBase.Entails.trans sep_assoc_out (part10_run m ρ K c _ h1 o ho _ _ fun v10 => ?_)
  -- the arrivals
  refine BIBase.Entails.trans (Q := iprop(records m ρ K ∗ (ow c 0 ∗ prog 0 (recvA (F := F) c) (recvB m ρ c))
      ∗ ((rowPts c c (xq m ρ c) ∗ colPts c c (xgAll m ρ c) ∗ prog 0 (drainA (F := F) c) (drainB m ρ c) ∗ bigSep Finset.univ fun b : Bool => atPos ER (idleCell c b) 0 ∅ 0)
      ∗ (wholeAt c cc0_stg0_0 (xstg m ρ c) ∗ atPos ER (barCell c) 1 ∅ 0 ∗ ring m ρ c 0 6
      ∗ wholeAt c cc0_stg1_0 (sxstg m ρ c) ∗ wholeAt c cc0_stg2_0 (systg m ρ c) ∗ ∃ X, owns (c : Thread nD τ) o fullShare X)))) ?_ (part11_run m ρ K c _ h1 o ho _ _ _ fun v11 => ?_)
  · unfold waits₀
    rw [owedR_end]
    iintro ⟨#HR, ⟨⟨HO, Hs⟩, Hrow, Hcol⟩, H0, Hat, Hring, ⟨Hcr, HpS, HpV, HpI⟩, H1⟩
    isplitr; · iexact HR
    isplitl [HO Hcr HpV]
    · isplitl [HO]; · iexact HO
      iapply (recv_ready m ρ c)
      isplitl [Hcr] <;> iassumption
    isplitl [Hrow Hcol Hs HpS HpI]
    · isplitl [Hrow]; · iexact Hrow
      isplitl [Hcol]; · iexact Hcol
      isplitl [Hs HpS]
      · iapply (drain_ready m ρ c)
        isplitl [Hs] <;> iassumption
      iexact HpI
    isplitl [H0]; · iexact H0
    isplitl [Hat]; · iexact Hat
    isplitl [Hring] <;> iassumption
  refine part12_run m ρ K c _ h1 o ho _ _ fun _ => ?_
  refine part13_run m ρ K c _ h1 o ho _ fun _ => ?_
  refine part14_run m ρ K c _ h1 o ho _ fun _ => ?_
  refine part15_run m ρ K c _ h1 o ho _ fun v15 => ?_
  refine step_recv m ρ K c 14 rfl (col_credit (nb c 0) _ (k0_off5_eq c 0)) ?_
  refine BIBase.Entails.trans ?_ hrest
  unfold keptRest
  iintro ⟨#HR, ⟨HO, Hv⟩, ⟨Hrow, Hcol, Hd, HpI⟩, H0, Hat, Hring, H1, H2, HX⟩
  ihave Hg := (recv_done m ρ c) $$ [Hv Hcol]
  · isplitl [Hv]; · iexact Hv
    iexact Hcol
  icases Hg with ⟨Hg, HpV⟩
  isplitr; · iexact HR
  isplitl [HO Hring]
  · isplitl [HO]; · iexact HO
    iexact Hring
  isplitl [Hg]; · iexact Hg
  isplitl [H1]; · iexact H1
  isplitl [H2]; · iexact H2
  isplitl [H0]; · iexact H0
  isplitl [Hrow Hd HpV Hat HpI]
  · isplitl [Hrow]; · iexact Hrow
    isplitl [Hd]; · iexact Hd
    isplitl [HpV]; · iexact HpV
    isplitl [Hat]; · iexact Hat
    iexact HpI
  iexact HX

end Cert.KernelIdeal.Hand

end
-- ==== Proof.Ideal.Body.lean ====
/-
The body at every grid point: what is proved of its parts, put together; the end of the run; and the pipeline's obligation.
-/
module

public import proofs.«01_k».proof.Proof.Ideal.Point

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The end: the counters closed -/

/-- Where each of a device's own cells stands at the end. -/
def lastPos : CI → ℕ
  | .inl _ => 1
  | .inr (.inl s) => (21 - s.val) / 6
  | .inr (.inr (.inl _)) => 1
  | .inr (.inr (.inr (.inl _))) => 1
  | .inr (.inr (.inr (.inr _))) => 0

theorem no_more (c : Dev nD) : ∀ (k : CI) (r : ℕ), lastPos k ≤ r → (rd (F := F) m ρ).duties (kcell (c, k)) r = ∅
  | .inl _ => duties_bar_later m ρ c
  | .inr (.inl s) => duties_w_later m ρ c s
  | .inr (.inr (.inl r)) => duties_send_later m ρ c r
  | .inr (.inr (.inr (.inl r))) => duties_recv_later m ρ c r
  | .inr (.inr (.inr (.inr b))) => duties_idle m ρ c b

theorem close_one (K : Dev nD × CI → ℕ) (c : Dev nD) (k : CI) :
    iprop(records m ρ K ∗ atPos ER (kcell (c, k)) (lastPos k) ∅ 0) ⊢ iprop(|={Set.univ}=> semVal (kcell (c, k)) 0) := by
  iintro ⟨#HR, H⟩
  ihave #Hi := (inv_at m ρ K (c, k)) $$ HR
  iapply (Rounds.cell_close ER (rd m ρ) (Set.mem_univ (K (c, k))) (fun h => h) (R := lastPos k) (no_more m ρ c k))
  isplitr; · iexact Hi
  iexact H

theorem close_all (K : Dev nD × CI → ℕ) (c : Dev nD) :
    iprop(records m ρ K ∗ bigSep Finset.univ fun k : CI => atPos ER (kcell (c, k)) (lastPos k) ∅ 0)
      ⊢ iprop(|={Set.univ}=> bigSep Finset.univ fun k : CI => semVal (kcell (c, k)) 0) := by
  have hrec : records (F := F) m ρ K ⊢ bigSep Finset.univ fun _ : CI => records m ρ K := bigSep_of_persistent _ _
  have hall : (bigSep Finset.univ fun k : CI => iprop(records m ρ K ∗ atPos ER (kcell (c, k)) (lastPos k) ∅ 0))
      ⊢ (bigSep Finset.univ fun k : CI => iprop(|={Set.univ}=> semVal (kcell (c, k)) 0) : sProp 𝕄) :=
    bigSep_mono fun k _ => close_one m ρ K c k
  have hup : (bigSep Finset.univ fun k : CI => (iprop(|={Set.univ}=> semVal (kcell (c, k)) 0) : sProp 𝕄))
      ⊢ iprop(|={Set.univ}=> bigSep Finset.univ fun k : CI => semVal (kcell (c, k)) 0) := bigSep_fupd _ _
  refine BIBase.Entails.trans ?_ (BIBase.Entails.trans hall hup)
  rw [bigSep_sep']
  iintro ⟨#HR, H⟩
  isplitr
  · iapply hrec; iexact HR
  iexact H

/-- After the last wait: the buffers whole again and every counter out at zero. -/
theorem finish_up (K : Dev nD × CI → ℕ) (c : Dev nD) (e : ℕ) (he : e = 16) :
    iprop(records m ρ K ∗ ring m ρ c 16 e ∗ wholeAt c cc0_scratch2 (xgAll m ρ c) ∗ rowPts c c (xq m ρ c) ∗ prog 15 (drainA (F := F) c) (drainB m ρ c)
        ∗ (bigSep Finset.univ fun r : Fin 15 => atPos ER (recvCell c r) 1 ∅ 0) ∗ atPos ER (barCell c) 1 ∅ 0
        ∗ bigSep Finset.univ fun b : Bool => atPos ER (idleCell c b) 0 ∅ 0)
      ⊢ iprop(|={Set.univ}=> finish m ρ c) := by
  have hs : (bigSep Finset.univ fun r : Fin 15 => drainB m ρ c r)
      = iprop((bigSep Finset.univ fun r : Fin 15 => atPos ER (sendCell c r) 1 ∅ 0) ∗ bigSep Finset.univ fun r : Fin 15 => rowPts c (nb c r) (xq m ρ c)) := by
    rw [← bigSep_sep']; rfl
  have hrows : iprop(rowPts c c (xq m ρ c) ∗ bigSep Finset.univ fun r : Fin 15 => rowPts c (nb c r) (xq m ρ c))
      ⊢ (((c : Thread nD τ).loc cc0_scratch1) ↦{fullShare} xq m ρ c : sProp 𝕄) := by
    rw [rows_split, devs_after c fun s => rowPts c s (xq m ρ c)]
  have hcells : iprop(atPos ER (barCell c) 1 ∅ 0 ∗ (bigSep Finset.univ fun s : Fin 6 => atPos ER (wCell c s) ((21 - s.val) / 6) ∅ 0)
        ∗ (bigSep Finset.univ fun r : Fin 15 => atPos ER (sendCell c r) 1 ∅ 0) ∗ (bigSep Finset.univ fun r : Fin 15 => atPos ER (recvCell c r) 1 ∅ 0)
        ∗ bigSep Finset.univ fun b : Bool => atPos ER (idleCell c b) 0 ∅ 0)
      ⊢ (bigSep Finset.univ fun k : CI => atPos ER (kcell (c, k)) (lastPos k) ∅ 0 : sProp 𝕄) := by
    rw [cells_split fun k : CI => (atPos ER (kcell (c, k)) (lastPos k) ∅ 0 : sProp 𝕄)]; exact BIBase.Entails.rfl
  have hvals : (bigSep Finset.univ fun k : CI => (semVal (kcell (c, k)) 0 : sProp 𝕄))
      ⊢ iprop(semVal (barCell c) 0 ∗ bigSep Finset.univ fun k : OI => semVal ((c : Thread nD τ), osem k) 0) := by
    rw [BI.bigSep_univ_sum, Finset.univ_unique, bigSep_singleton]; exact BIBase.Entails.rfl
  rw [prog_end, hs]
  unfold finish scratches
  iintro ⟨#HR, Hring, Hg, Hrow, ⟨HpS, Hrows⟩, HpV, HpB, HpI⟩
  ihave Hend := (ring_end m ρ c e he) $$ Hring
  icases Hend with ⟨Hw, H0, HpW⟩
  ihave Hat := hcells $$ [HpB HpW HpS HpV HpI]
  · isplitl [HpB]; · iexact HpB
    isplitl [HpW]; · iexact HpW
    isplitl [HpS]; · iexact HpS
    isplitl [HpV] <;> iassumption
  imod (close_all m ρ K c) $$ [Hat] with Hz
  · isplitr; · iexact HR
    iexact Hat
  ihave Hz' := hvals $$ Hz
  icases Hz' with ⟨HzB, HzO⟩
  imodintro
  isplitl [HzB]; · iexact HzB
  isplitl [HzO]; · iexact HzO
  isplitl [Hw]; · iexact Hw
  isplitl [H0]; · iexact H0
  isplitl [Hrow Hrows]
  · iexists (xq m ρ c)
    iapply hrows
    isplitl [Hrow] <;> iassumption
  iexists (xgAll m ρ c); iexact Hg

/-! ## The block of results stored -/

theorem owns_whole_eq (c : Dev nD) (b : Ref sig .tc) (X : Buf (Elt F) ((c : Thread nD τ).loc b)) :
    (owns (c : Thread nD τ) (Memref.whole b) fullShare X : sProp 𝕄) = iprop(∃ f, ⌜f = X⌝ ∗ ((c : Thread nD τ).loc b) ↦{fullShare} f) := by
  unfold owns; simp only [Memref.view_whole, View.read_whole, View.set_whole]

/-- The result's staging buffer at a point is one of two whole buffers. -/
def IsOut (o : Memref sig .tc .vmem S256x512 .f32) : Prop := o = Memref.whole cc0_stg3_0 ∨ o = Memref.whole cc0_stg3_1

/-- The body's last two accesses load the staging buffer, to no use, and store the block over it. -/
theorem step_out (K : Dev nD × CI → ℕ) (c : Dev nD) (o : Memref sig .tc .vmem S256x512 .f32) (hio : IsOut o) (w : FVec F S256x512 .f32) {hl hx hm}
    {α : Type} {kk : PUnit → Prog (TpuEff nD τ sig (Elt F) Λ₀ .tc) α} {Q : α → sProp 𝕄} {P : sProp 𝕄}
    (h : iprop(records m ρ K ∗ owns (c : Thread nD τ) o fullShare w ∗ P) ⊢ run c (kk ⟨⟩) Q) :
    iprop(records m ρ K ∗ (∃ X, owns (c : Thread nD τ) o fullShare X) ∗ P)
      ⊢ run c (.op (.load o (Rect.unit (s := S256x512) ![0, 0] S256x512.size inb_S256x512_S256x512_0_0).toLoadRect hl) fun _ =>
          .op (.store o (Rect.unit (s := S256x512) ![0, 0] S256x512.size inb_S256x512_S256x512_0_0) w Finset.univ hx hm) kk) Q := by
  have hput : ∀ (b : Ref sig .tc) (X : Buf (Elt F) ((c : Thread nD τ).loc b)), wholeAt c b X ⊢ owns (c : Thread nD τ) (Memref.whole b) fullShare X := by
    intro b X
    rw [owns_whole_eq]
    iintro H; iexists X; isplitr; · ipureintro; rfl
    iexact H
  have hget : ∀ (b : Ref sig .tc), iprop(records m ρ K ∗ (∃ X, owns (c : Thread nD τ) (Memref.whole b) fullShare X) ∗ P)
      ⊢ iprop(∃ X : Buf (Elt F) ((c : Thread nD τ).loc b), records m ρ K ∗ wholeAt c b X ∗ P) := by
    intro b
    simp only [owns_whole_eq]
    iintro ⟨#HR, ⟨%X, %f, -, H⟩, HP⟩
    iexists f
    isplitr; · iexact HR
    isplitl [H] <;> iassumption
  have hback : ∀ (b : Ref sig .tc) (X : Buf (Elt F) ((c : Thread nD τ).loc b)),
      iprop(records m ρ K ∗ wholeAt c b X ∗ P) ⊢ iprop(records m ρ K ∗ owns (c : Thread nD τ) (Memref.whole b) fullShare X ∗ P) := by
    intro b X
    iintro ⟨#HR, H, HP⟩
    isplitr; · iexact HR
    isplitl [H]; · iapply (hput b X); iexact H
    iexact HP
  rcases hio with rfl | rfl
  · refine BIBase.Entails.trans (hget cc0_stg3_0) (exists_pre fun f => ?_)
    exact step_load m ρ K c (mr := Memref.whole cc0_stg3_0) (r := (Rect.unit (s := S256x512) ![0, 0] S256x512.size inb_S256x512_S256x512_0_0).toLoadRect) (S := Finset.univ) (f := f) _ (Finset.subset_univ _) rfl
      (step_store m ρ K c (mr := Memref.whole cc0_stg3_0) (r := (Rect.unit (s := S256x512) ![0, 0] S256x512.size inb_S256x512_S256x512_0_0)) (S := Finset.univ) (f := f) (wholeAt c cc0_stg3_0 w) (Finset.subset_univ _)
        (congrArg (wholeAt c cc0_stg3_0) (Memref.write_access_unit_zero_univ (Elt F) cc0_stg3_0 hz2 _ f w)) (BIBase.Entails.trans (hback cc0_stg3_0 w) h))
  · refine BIBase.Entails.trans (hget cc0_stg3_1) (exists_pre fun f => ?_)
    exact step_load m ρ K c (mr := Memref.whole cc0_stg3_1) (r := (Rect.unit (s := S256x512) ![0, 0] S256x512.size inb_S256x512_S256x512_0_0).toLoadRect) (S := Finset.univ) (f := f) _ (Finset.subset_univ _) rfl
      (step_store m ρ K c (mr := Memref.whole cc0_stg3_1) (r := (Rect.unit (s := S256x512) ![0, 0] S256x512.size inb_S256x512_S256x512_0_0)) (S := Finset.univ) (f := f) (wholeAt c cc0_stg3_1 w) (Finset.subset_univ _)
        (congrArg (wholeAt c cc0_stg3_1) (Memref.write_access_unit_zero_univ (Elt F) cc0_stg3_1 hz2 _ f w)) (BIBase.Entails.trans (hback cc0_stg3_1 w) h))

/-! ## The body at a point -/

abbrev theBody (i : grid0.Coords) (o : Memref sig .tc .vmem S256x512 .f32) (ho : o.IsWhole) : Prog (TpuEff nD τ sig (Elt F) Λ₀ .tc) PUnit :=
  cc0_body i (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5

/-- What a point leaves, but for the invariant: the staged arguments as they were and the block of results. -/
def left (c : Dev nD) (t : Fin cfg0.N) (o : Memref sig .tc .vmem S256x512 .f32) : sProp 𝕄 :=
  iprop(ow c 0 ∗ wholeAt c cc0_stg0_0 (xstg m ρ c) ∗ wholeAt c cc0_stg1_0 (sxstg m ρ c) ∗ wholeAt c cc0_stg2_0 (systg m ρ c)
    ∗ owns (c : Thread nD τ) o fullShare (outAt m ρ c (blkNo t)))

/-- The body at a point before the last, from what is proved of its first part. -/
theorem body_inner (K : Dev nD × CI → ℕ) (c : Dev nD) (t : Fin cfg0.N) (ht : t.val ≠ 15) (o : Memref sig .tc .vmem S256x512 .f32) (ho : o.IsWhole) (hio : IsOut o)
    {A : sProp 𝕄} (hA : ∀ Q : (Σ' (arg0 : BitVec 32) (d0 : Dev nD) (v2 : BitVec 32), FVec F S256x512 .f32) → sProp 𝕄, (∀ a v, iprop(records m ρ K ∗ after m ρ c t.val o) ⊢ Q ⟨a, c, v, outAt m ρ c (blkNo t)⟩)
      → A ⊢ run c (k0_part20 (grid0.coords t) (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5) Q) :
    A ⊢ run c (theBody (grid0.coords t) o ho) (fun _ => iprop(mid m ρ c (t.val + 1) ∗ left m ρ c t o)) := by
  have h3 : ¬ k0_cond3 (grid0.coords t) = 1#1 := fun h => ht ((cond3_iff t).mp h)
  unfold run theBody
  rw [cc0_body_eq_skeleton]
  unfold cc0_body_skel
  simp only [Prog.lift, Prog.bind_op, Prog.bind_ret, Prog.pure_eq_ret, wp_bind, dif_neg h3]
  refine hA _ fun a v => ?_
  refine BIBase.Entails.trans (Q := iprop(records m ρ K ∗ (∃ X, owns (c : Thread nD τ) o fullShare X)
    ∗ (ring m ρ c (t.val + 1) (min 16 (t.val + 7)) ∗ kept m ρ c) ∗ ow c 0 ∗ wholeAt c cc0_stg0_0 (xstg m ρ c) ∗ wholeAt c cc0_stg1_0 (sxstg m ρ c) ∗ wholeAt c cc0_stg2_0 (systg m ρ c))) ?_
    (step_out m ρ K c o hio (outAt m ρ c (blkNo t)) ?_)
  · unfold after kept keptRest
    iintro ⟨#HR, Hg, H1, H2, HO, Hring, H0, Hk, HX⟩
    isplitr; · iexact HR
    isplitl [HX]; · iexact HX
    isplitl [Hring Hg Hk]
    · isplitl [Hring]; · iexact Hring
      isplitl [Hg] <;> iassumption
    isplitl [HO]; · iexact HO
    isplitl [H0]; · iexact H0
    isplitl [H1] <;> iassumption
  refine BIBase.Entails.trans ?_ (ret_step c _)
  unfold mid left
  iintro ⟨#HR, Ho, ⟨Hring, Hk⟩, HO, H0, H1, H2⟩
  isplitl [Hring Hk]
  · iexists K
    isplitr; · iexact HR
    isplitl [Hring]; · iexact Hring
    iexact Hk
  isplitl [HO]; · iexact HO
  isplitl [H0]; · iexact H0
  isplitl [H1]; · iexact H1
  isplitl [H2] <;> iassumption

/-- The body at the last point, which waits for the departures too. -/
theorem body_last (K : Dev nD × CI → ℕ) (c : Dev nD) (t : Fin cfg0.N) (ht : t.val = 15) (o : Memref sig .tc .vmem S256x512 .f32) (ho : o.IsWhole) (hio : IsOut o)
    {A : sProp 𝕄} (hA : ∀ Q : (Σ' (arg0 : BitVec 32) (d0 : Dev nD) (v2 : BitVec 32), FVec F S256x512 .f32) → sProp 𝕄, (∀ a v, iprop(records m ρ K ∗ after m ρ c t.val o) ⊢ Q ⟨a, c, v, outAt m ρ c (blkNo t)⟩)
      → A ⊢ run c (k0_part20 (grid0.coords t) (Memref.whole cc0_stg0_0) (Memref.isWhole_whole _) (Memref.whole main_arg1) (Memref.isWhole_whole _) (Memref.whole cc0_stg1_0) (Memref.isWhole_whole _) (Memref.whole cc0_stg2_0) (Memref.isWhole_whole _) o ho (Memref.whole cc0_scratch0) (Memref.isWhole_whole _) (Memref.whole cc0_scratch1) (Memref.isWhole_whole _) (Memref.whole cc0_scratch2) (Memref.isWhole_whole _) cc0_scratch3 cc0_scratch4 cc0_scratch5) Q) :
    A ⊢ run c (theBody (grid0.coords t) o ho) (fun _ => iprop(finish m ρ c ∗ left m ρ c t o)) := by
  have h3 : k0_cond3 (grid0.coords t) = 1#1 := (cond3_iff t).mpr ht
  unfold run theBody
  rw [cc0_body_eq_skeleton]
  unfold cc0_body_skel
  simp only [Prog.lift, Prog.bind_op, Prog.bind_ret, Prog.pure_eq_ret, wp_bind, dif_pos h3]
  refine hA _ fun a v => ?_
  refine BIBase.Entails.trans (Q := iprop(records m ρ K ∗ (∃ X, owns (c : Thread nD τ) o fullShare X)
    ∗ (ow c 0 ∗ prog 0 (drainA (F := F) c) (drainB m ρ c))
    ∗ (ring m ρ c 16 (min 16 (t.val + 7)) ∗ wholeAt c cc0_scratch2 (xgAll m ρ c) ∗ rowPts c c (xq m ρ c)
      ∗ (bigSep Finset.univ fun r : Fin 15 => atPos ER (recvCell c r) 1 ∅ 0) ∗ atPos ER (barCell c) 1 ∅ 0
      ∗ bigSep Finset.univ fun b : Bool => atPos ER (idleCell c b) 0 ∅ 0)
    ∗ wholeAt c cc0_stg0_0 (xstg m ρ c) ∗ wholeAt c cc0_stg1_0 (sxstg m ρ c) ∗ wholeAt c cc0_stg2_0 (systg m ρ c))) ?_
    (step_out m ρ K c o hio (outAt m ρ c (blkNo t)) ?_)
  · unfold after keptRest
    rw [show ring m ρ c (t.val + 1) = ring m ρ c 16 by rw [ht]]
    iintro ⟨#HR, Hg, H1, H2, HO, Hring, H0, ⟨Hrow, Hd, Hk⟩, HX⟩
    isplitr; · iexact HR
    isplitl [HX]; · iexact HX
    isplitl [HO Hd]
    · isplitl [HO] <;> iassumption
    isplitl [Hring Hg Hrow Hk]
    · isplitl [Hring]; · iexact Hring
      isplitl [Hg]; · iexact Hg
      isplitl [Hrow] <;> iassumption
    isplitl [H0]; · iexact H0
    isplitl [H1] <;> iassumption
  refine BIBase.Entails.trans swap_front ?_
  simp only [wp_bind]
  refine part16_run m ρ K c _ h3 o ho _ fun _ => ?_
  refine part17_run m ρ K c _ h3 o ho _ fun _ => ?_
  refine part18_run m ρ K c _ h3 o ho _ fun _ => ?_
  refine part19_run m ρ K c _ h3 o ho _ fun _ => ?_
  refine step_drain m ρ K c 13 rfl (row_credit (nb c 13) _ (k0_off13_eq c 13)) ?_
  refine step_drain m ρ K c 14 rfl (row_credit (nb c 14) _ (k0_off13_eq c 14)) ?_
  refine BIBase.Entails.trans ?_ (ret_fupd c _)
  unfold left
  iintro ⟨#HR, ⟨HO, Hd⟩, Ho, ⟨Hring, Hg, Hrow, HpV, HpB, HpI⟩, H0, H1, H2⟩
  imod (finish_up m ρ K c _ (show min 16 (t.val + 7) = 16 by omega)) $$ [Hd Hring Hg Hrow HpV HpB HpI] with Hf
  · isplitr; · iexact HR
    isplitl [Hring]; · iexact Hring
    isplitl [Hg]; · iexact Hg
    isplitl [Hrow]; · iexact Hrow
    isplitl [Hd]; · iexact Hd
    isplitl [HpV]; · iexact HpV
    isplitl [HpB] <;> iassumption
  imodintro
  isplitl [Hf]; · iexact Hf
  isplitl [HO]; · iexact HO
  isplitl [H0]; · iexact H0
  isplitl [H1]; · iexact H1
  isplitl [H2] <;> iassumption

theorem inv_zero (c : Dev nD) (t : ℕ) (h : t = 0) : inv m ρ c t = iprop(start m ρ c ∗ scratches (F := F) c) := by subst h; rfl
theorem inv_mid (c : Dev nD) (t : ℕ) (h : t ≠ 0) (h' : t ≠ 16) : inv m ρ c t = mid m ρ c t := by unfold inv; rw [if_neg h, if_neg h']
theorem inv_end (c : Dev nD) (t : ℕ) (h : t = 16) : inv m ρ c t = finish m ρ c := by subst h; rfl

/-- The body at any point: from the invariant and the staged arguments to the next invariant and the block of results. -/
theorem body_run (c : Dev nD) (t : Fin cfg0.N) (o : Memref sig .tc .vmem S256x512 .f32) (ho : o.IsWhole) (hio : IsOut o) :
    iprop(inv m ρ c t.val ∗ ow c (if t.val = 0 then O₀ c else 0) ∗ staged m ρ c o)
      ⊢ run c (theBody (grid0.coords t) o ho) (fun _ => iprop(inv m ρ c (t.val + 1) ∗ left m ρ c t o)) := by
  have hN : t.val < 16 := lt_of_lt_of_eq t.isLt N_0
  by_cases h0 : t.val = 0
  · rw [inv_zero m ρ c _ h0, if_pos h0, inv_mid m ρ c (t.val + 1) (by omega) (by omega)]
    refine BIBase.Entails.trans ?_ (exists_pre fun K => body_inner m ρ K c t (by omega) o ho hio (fun Q h => part20_first m ρ K c t h0 o ho h))
    iintro ⟨Hi, HO, Hs⟩
    ihave H := (first_ready m ρ c) $$ [Hi HO]
    · isplitl [Hi] <;> iassumption
    icases H with ⟨%K, #HR, H⟩
    iexists K
    isplitr; · iexact HR
    isplitl [H] <;> iassumption
  · rw [inv_mid m ρ c t.val h0 (by omega), if_neg h0]
    have hpre : iprop(mid m ρ c t.val ∗ ow c 0 ∗ staged m ρ c o)
        ⊢ iprop(∃ K, records m ρ K ∗ ow c 0 ∗ (ring m ρ c t.val (min 16 (t.val + 6)) ∗ kept m ρ c) ∗ staged m ρ c o) := by
      unfold mid
      iintro ⟨⟨%K, #HR, Hr⟩, HO, Hs⟩
      iexists K
      isplitr; · iexact HR
      isplitl [HO]; · iexact HO
      isplitl [Hr] <;> iassumption
    refine BIBase.Entails.trans hpre (exists_pre fun K => ?_)
    by_cases h15 : t.val = 15
    · rw [inv_end m ρ c (t.val + 1) (by omega)]
      exact body_last m ρ K c t h15 o ho hio (fun Q h => part20_next m ρ K c t h0 o ho h)
    · rw [inv_mid m ρ c (t.val + 1) (by omega) (by omega)]
      exact body_inner m ρ K c t h15 o ho hio (fun Q h => part20_next m ρ K c t h0 o ho h)

theorem isOut_stage : ∀ s : Fin 2, IsOut (win0_3.stage s) := fun s => by
  fin_cases s
  · exact Or.inl rfl
  · exact Or.inr rfl

theorem point_open (c : Dev nD) (t : Fin cfg0.N) : iprop((dats m ρ 0 c).Φ t.castSucc ∗ (dats m ρ 0 c).owesAt () t.castSucc
      ∗ (∃ d, owns (c : Thread nD τ) (Memref.whole cc0_stg0_0) fullShare ((dats m ρ 0 c).before (0 : Fin 4) t d))
      ∗ (∃ d, owns (c : Thread nD τ) (Memref.whole cc0_stg1_0) fullShare ((dats m ρ 0 c).before (1 : Fin 4) t d))
      ∗ (∃ d, owns (c : Thread nD τ) (Memref.whole cc0_stg2_0) fullShare ((dats m ρ 0 c).before (2 : Fin 4) t d))
      ∗ (∃ d, owns (c : Thread nD τ) (win0_3.stage (cfg0.slots t 3)) fullShare ((dats m ρ 0 c).before (3 : Fin 4) t d)))
      ⊢ iprop(inv m ρ c t.val ∗ ow c (if t.val = 0 then O₀ c else 0) ∗ staged m ρ c (win0_3.stage (cfg0.slots t 3))) := by
    rw [show (dats m ρ 0 c).Φ t.castSucc = inv m ρ c t.val from rfl]
    unfold staged ow Dat.owesAt Pipeline.owesWithin
    simp only [owns_whole_eq, before_0, before_1, before_2]
    iintro ⟨Hi, ⟨%W, -, HO⟩, ⟨%d0, %f0, %h0, H0⟩, ⟨%d1, %f1, %h1, H1⟩, ⟨%d2, %f2, %h2, H2⟩, ⟨%d3, H3⟩⟩
    subst h0 h1 h2
    isplitl [Hi]; · iexact Hi
    isplitl [HO]; · iexists W; iexact HO
    isplitl [H0]; · iexact H0
    isplitl [H1]; · iexact H1
    isplitl [H2]; · iexact H2
    iexists _; iexact H3
theorem point_close (c : Dev nD) (t : Fin cfg0.N) : iprop(inv m ρ c (t.val + 1) ∗ left m ρ c t (win0_3.stage (cfg0.slots t 3)))
      ⊢ iprop((dats m ρ 0 c).Φ t.succ ∗ (dats m ρ 0 c).owesAt () t.succ
      ∗ owns (c : Thread nD τ) (Memref.whole cc0_stg0_0) fullShare (xstg m ρ c)
      ∗ owns (c : Thread nD τ) (Memref.whole cc0_stg1_0) fullShare (sxstg m ρ c)
      ∗ owns (c : Thread nD τ) (Memref.whole cc0_stg2_0) fullShare (systg m ρ c)
      ∗ owns (c : Thread nD τ) (win0_3.stage (cfg0.slots t 3)) fullShare (outAt m ρ c (blkNo t))) := by
    rw [show (dats m ρ 0 c).Φ t.succ = inv m ρ c (t.val + 1) from rfl]
    unfold left ow Dat.owesAt Pipeline.owesWithin
    simp only [owns_whole_eq]
    iintro ⟨Hi, ⟨%W, HO⟩, H0, H1, H2, H3⟩
    isplitl [Hi]; · iexact Hi
    isplitl [HO]
    · iexists W
      isplitr; · ipureintro; exact fun _ _ => Or.inl trivial
      iexact HO
    isplitl [H0]
    · iexists _; isplitr; · ipureintro; rfl
      iexact H0
    isplitl [H1]
    · iexists _; isplitr; · ipureintro; rfl
      iexact H1
    isplitl [H2]
    · iexists _; isplitr; · ipureintro; rfl
      iexact H2
    iexact H3
theorem stage_0 (u : Fin 1) : win0_0.stage u = Memref.whole cc0_stg0_0 := by fin_cases u; rfl
theorem stage_1 (u : Fin 1) : win0_1.stage u = Memref.whole cc0_stg1_0 := by fin_cases u; rfl
theorem stage_2 (u : Fin 1) : win0_2.stage u = Memref.whole cc0_stg2_0 := by fin_cases u; rfl
theorem body_congr (i : grid0.Coords) (o : Memref sig .tc .vmem S256x512 .f32) (ho : o.IsWhole) {a a'} (ha : a.IsWhole) (ha' : a'.IsWhole) (ea : a = a')
    {b b'} (hb : b.IsWhole) (hb' : b'.IsWhole) (eb : b = b') {d d'} (hd : d.IsWhole) (hd' : d'.IsWhole) (ed : d = d') :
    cc0_body (F := F) i a ha (Memref.whole main_arg1) (Memref.isWhole_whole _) b hb d hd o ho (Memref.whole cc0_scratch0) (Memref.isWhole_whole _) (Memref.whole cc0_scratch1) (Memref.isWhole_whole _) (Memref.whole cc0_scratch2) (Memref.isWhole_whole _) cc0_scratch3 cc0_scratch4 cc0_scratch5
      = cc0_body i a' ha' (Memref.whole main_arg1) (Memref.isWhole_whole _) b' hb' d' hd' o ho (Memref.whole cc0_scratch0) (Memref.isWhole_whole _) (Memref.whole cc0_scratch1) (Memref.isWhole_whole _) (Memref.whole cc0_scratch2) (Memref.isWhole_whole _) cc0_scratch3 cc0_scratch4 cc0_scratch5 := by
  subst ea eb ed; rfl
theorem body_at (t : Fin cfg0.N) : bodyAt0 (F := F) t = theBody (grid0.coords t) (win0_3.stage (cfg0.slots t 3)) (hstage0_3 _) :=
  body_congr _ _ _ _ _ (stage_0 _) _ _ (stage_1 _) _ _ (stage_2 _)
theorem prog_at (t : Fin cfg0.N) : defs₀ (F := F) Proc.tc cfg0.body (cfg0.bodyArgs t (cfg0.slots t)) = bodyAt0 (F := F) t := rfl

/-- The library's body obligation on device `c`. -/
theorem body_obligation (c : Dev nD) : BodyObligation (dats (F := F) m ρ 0 c) (defs₀ (F := F)) 𝒱₀ () Set.univ := fun t => by
  rw [bigSep_W0, bigSep_W0, prog_at, body_at]
  have hrun := BIBase.Entails.trans (point_open m ρ c t) (BIBase.Entails.trans (body_run m ρ c t (win0_3.stage (cfg0.slots t 3)) (hstage0_3 _) (isOut_stage _)) (wp_mono _ _ _ fun _ => point_close m ρ c t))
  rw [show (cfg0.win 0).stage (cfg0.slots t 0) = Memref.whole cc0_stg0_0 from stage_0 _, show (cfg0.win 1).stage (cfg0.slots t 1) = Memref.whole cc0_stg1_0 from stage_1 _,
    show (cfg0.win 2).stage (cfg0.slots t 2) = Memref.whole cc0_stg2_0 from stage_2 _]
  exact hrun

end Cert.KernelIdeal.Hand

end
-- ==== Proof.Ideal.Launch.lean ====
/-
The launch: the cells' ghost state minted and dealt to the devices, the credits of what every device owes, and the run of
the whole program on the sixteen devices.
-/
module

public import proofs.«01_k».proof.Proof.Ideal.Body
public import Idealize.ShloMosaic.Lib.Pipeline.CollectiveSegs
public import Idealize.ShloMosaic.Lib.Quiescent

@[expose] public section

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem own_sem_facts : Pipeline.OwnSemFacts cfg0.spec osem := by decide

theorem share_full (c : Dev nD) (w : Fin cfg0.W) : (dats m ρ 0 c).share w = fullShare := by unfold Dat.share; split <;> rfl

/-- All cells of the protocol, -/
def handCells : Finset (GSem nD τ sig) := Finset.univ.map ⟨kcell, kcell_injective⟩

/-- and the duties of one device's own cells: its barrier's fifteen, one per block of `w`, one per departure, one per
    arrival. -/
abbrev JI : Type := Fin 15 ⊕ (Fin 16 ⊕ (Fin 15 ⊕ Fin 15))
abbrev jtok : JI → SemLoc sig × ℕ × Fin 15
  | .inl r => (.reg barS, 0, r)
  | .inr (.inl b) => (.dma (wS (sl b.val)), b.val / 6, 0)
  | .inr (.inr (.inl r)) => (.dma (sendS r), 0, 0)
  | .inr (.inr (.inr r)) => (.dma (recvS r), 0, 0)
set_option maxRecDepth 4000 in
theorem jtok_injective : Function.Injective jtok := by decide
abbrev tokAt (cj : Dev nD × JI) : GSem nD τ sig × ℕ × Fin 15 := (((cj.1 : Thread nD τ), (jtok cj.2).1), (jtok cj.2).2)
theorem tokAt_injective : Function.Injective (tokAt : Dev nD × JI → GSem nD τ sig × ℕ × Fin 15) := by
  rintro ⟨c, j⟩ ⟨c', j'⟩ h
  have h1 : c = c' := congrArg (fun x : GSem nD τ sig × ℕ × Fin 15 => x.1.1.1) h
  have h2 : j = j' := jtok_injective (congrArg (fun x : GSem nD τ sig × ℕ × Fin 15 => (x.1.2, x.2)) h)
  rw [h1, h2]
def handToks : Finset (GSem nD τ sig × ℕ × Fin 15) := Finset.univ.map ⟨tokAt, tokAt_injective⟩

def u₀ : UU := (initOf (Pipeline.cells cfgs cellOf_inj) (Pipeline.launchToks cfgs cellOf_inj), initOf handCells handToks)

/-- The duty tokens of device `c`'s own cells. -/
def ownToks (c : Dev nD) : sProp 𝕄 :=
  bigSep Finset.univ fun j : JI => dutyTok ER (tokAt (c, j)).1 (tokAt (c, j)).2.1 (tokAt (c, j)).2.2
/-- The places of device `c`'s cells with the record of their first round. -/
def firstPlaces (c : Dev nD) : sProp 𝕄 := bigSep Finset.univ fun k : CI => iprop(atPos ER (kcell (c, k)) 0 ∅ 0 ∗ reached ER (kcell (c, k)) 0)
/-- The ghost share of device `c` before the cells' invariants exist. -/
def share₀ (c : Dev nD) : sProp 𝕄 :=
  iprop((bigSep Finset.univ fun k : CI => roundState ER (rd m ρ) (kcell (c, k)) 0) ∗ firstPlaces (F := F) c ∗ ownToks (F := F) c)

theorem over_cells (Φ : GSem nD τ sig → sProp 𝕄) :
    bigSep handCells Φ = bigSep Finset.univ fun c : Dev nD => bigSep Finset.univ fun k : CI => Φ (kcell (c, k)) := by
  unfold handCells; rw [bigSep_map, BI.bigSep_univ_prod]; rfl
theorem over_toks :
    bigSep handToks (fun x => (dutyTok ER x.1 x.2.1 x.2.2 : sProp 𝕄)) = bigSep Finset.univ fun c : Dev nD => ownToks (F := F) c := by
  unfold handToks; rw [bigSep_map, BI.bigSep_univ_prod]; rfl

theorem fund : BI.own (ER (initOf handCells handToks)) ⊢ (|==> bigSep Finset.univ (share₀ m ρ) : sProp 𝕄) := by
  iintro HX
  imod (Rounds.fund ER (rd m ρ) handCells handToks) $$ HX with ⟨Hst, Hr, Hat, Htok⟩
  imodintro
  ihave Hst' := (Entails.of_eq (over_cells fun g => roundState ER (rd m ρ) g 0)) $$ Hst
  ihave Hat' := (Entails.of_eq (over_cells fun g => atPos ER g 0 ∅ 0)) $$ Hat
  ihave Hr' := (Entails.of_eq (over_cells fun g => reached ER g 0)) $$ Hr
  ihave Htok' := (Entails.of_eq over_toks) $$ Htok
  unfold share₀ firstPlaces; simp only [bigSep_sep']
  isplitl [Hst']; · iexact Hst'
  isplitl [Hat' Hr']
  · isplitl [Hat'] <;> iassumption
  iexact Htok'

/-- The kernel's own counters, the barrier's, and all of them. -/
theorem own_sems (c : Dev nD) : (Pipeline.ownSems0 (Ix := Unit) (Name := ℕ) (U := UU) (Lvl := ℕ) (Val := Elt F) (τ := τ) osem c : sProp 𝕄)
    = bigSep Finset.univ fun k : OI => semVal ((c : Thread nD τ), osem k) 0 := rfl
theorem bar_sem (c : Dev nD) : (unscopedSems0 c : sProp 𝕄) = semVal (barCell c) 0 := by
  unfold unscopedSems0; rw [bigSep_eq_bigSepL_of_eq [SemLoc.reg barS] (by decide) (by decide)]; rfl
theorem all_sems (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  have h : (bigSep Finset.univ fun k : CI => semVal (kcell (c, k)) 0 : sProp 𝕄)
      = iprop(semVal (barCell c) 0 ∗ bigSep Finset.univ fun k : OI => semVal ((c : Thread nD τ), osem k) 0) := by
    rw [BI.bigSep_univ_sum]
    congr 1
    rw [Finset.univ_unique, bigSep_singleton]
  rw [h, own_sems, bar_sem]
  iintro ⟨HO, HB⟩
  isplitl [HB]; · iexact HB
  iexact HO

theorem core_open (c : Dev nD) :
    iprop(Pipeline.ownSems0 (Ix := Unit) (Name := ℕ) (U := UU) (Lvl := ℕ) (Val := Elt F) (τ := τ) osem c ∗ unscopedSems0 c ∗ share₀ m ρ c)
      ⊢ |={Set.univ}=> iprop((bigSep Finset.univ fun k : CI => iprop(∃ κ : ℕ, cellInv ER (rd m ρ) κ (kcell (c, k))))
          ∗ firstPlaces (F := F) c ∗ ownToks (F := F) c) := by
  unfold share₀
  iintro ⟨Hos, Hus, Hst, Hat, Htok⟩
  ihave Hv := (all_sems (F := F) c) $$ [Hos Hus]
  · isplitl [Hos] <;> iassumption
  imod (show iprop((bigSep Finset.univ fun k : CI => semVal (kcell (c, k)) 0) ∗ bigSep Finset.univ fun k : CI => roundState ER (rd m ρ) (kcell (c, k)) 0)
      ⊢ (|={Set.univ}=> bigSep Finset.univ fun k : CI => iprop(∃ κ : ℕ, cellInv ER (rd m ρ) κ (kcell (c, k))) : sProp 𝕄) from by
        rw [← bigSep_sep']
        exact (bigSep_mono fun k _ => (Rounds.body_intro ER (rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A family over devices and distances, dealt from the device concerned to the device that many places before it. -/
def deal : Dev nD × Fin 15 ≃ Dev nD × Fin 15 :=
  ⟨fun p => (nb p.1 p.2, p.2), fun p => (pb p.1 p.2, p.2), fun p => Prod.ext (pb_nb p.1 p.2) rfl, fun p => Prod.ext (nb_pb p.1 p.2) rfl⟩
theorem around (Φ : Dev nD → Fin 15 → sProp 𝕄) :
    (bigSep Finset.univ fun c : Dev nD => bigSep Finset.univ fun r : Fin 15 => Φ c r)
      = bigSep Finset.univ fun c : Dev nD => bigSep Finset.univ fun r : Fin 15 => Φ (nb c r) r := by
  rw [← BI.bigSep_univ_prod (fun p : Dev nD × Fin 15 => Φ p.1 p.2), BI.bigSep_univ_equiv deal (fun p : Dev nD × Fin 15 => Φ p.1 p.2), BI.bigSep_univ_prod]
  rfl
theorem ownToks_eq (c : Dev nD) : ownToks (F := F) c
    = iprop((bigSep Finset.univ fun r : Fin 15 => dutyTok ER (barCell c) 0 r)
    ∗ (bigSep Finset.univ fun b : Fin 16 => dutyTok ER (wCell c (sl b.val)) (b.val / 6) 0)
    ∗ (bigSep Finset.univ fun r : Fin 15 => dutyTok ER (sendCell c r) 0 0)
    ∗ bigSep Finset.univ fun r : Fin 15 => dutyTok ER (recvCell c r) 0 0) := by
  unfold ownToks; rw [BI.bigSep_univ_sum, BI.bigSep_univ_sum, BI.bigSep_univ_sum]; rfl
theorem toks_dealt : (bigSep Finset.univ fun c : Dev nD => ownToks (F := F) c) ⊢ bigSep Finset.univ fun c : Dev nD => tokens (F := F) c := by
  unfold tokens
  rw [bigSep_congr (fun (c : Dev nD) _ => ownToks_eq (F := F) c), bigSep_sep', bigSep_sep', bigSep_sep', bigSep_sep', bigSep_sep', bigSep_sep',
    around (fun (c : Dev nD) r => (dutyTok ER (barCell c) 0 r : sProp 𝕄)), around (fun (c : Dev nD) r => (dutyTok ER (recvCell c r) 0 0 : sProp 𝕄))]

theorem ghost_of (K : Dev nD × CI → ℕ) (c : Dev nD) : iprop(records m ρ K ∗ places (F := F) c ∗ tokens (F := F) c) ⊢ ghost m ρ c := by
  unfold ghost
  iintro ⟨#HR, HP, HT⟩
  iexists K
  isplitr; · iexact HR
  isplitl [HP] <;> iassumption

theorem keep_for_all {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem firstPlaces_eq (c : Dev nD) : firstPlaces (F := F) c = iprop(places (F := F) c ∗ bigSep Finset.univ fun k : CI => reached ER (kcell (c, k)) 0) := by
  unfold firstPlaces places; rw [bigSep_sep']

theorem share_out :
    (bigSep Finset.univ fun c : Dev nD => iprop((bigSep Finset.univ fun k : CI => iprop(∃ κ : ℕ, cellInv ER (rd m ρ) κ (kcell (c, k))))
          ∗ firstPlaces (F := F) c ∗ ownToks (F := F) c) : sProp 𝕄)
      ⊢ bigSep Finset.univ (ghost m ρ) := by
  rw [bigSep_sep', bigSep_sep', ← BI.bigSep_univ_prod (fun ck : Dev nD × CI => iprop(∃ κ : ℕ, cellInv ER (rd m ρ) κ (kcell ck))),
    bigSep_congr (fun (c : Dev nD) _ => firstPlaces_eq (F := F) c),
    bigSep_sep', ← BI.bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (rd m ρ) κ (kcell ck) : sProp 𝕄))) $$ HI
  icases HK with ⟨%K, #HI⟩
  ihave Htk := (toks_dealt (F := F)) $$ Htok
  iapply (keep_for_all (R := records m ρ K) fun c _ => ghost_of m ρ K c)
  isplitr
  · unfold records; isplitl; · iexact HI
    iexact HR
  · iapply (Entails.of_eq (bigSep_sep' Finset.univ (fun c : Dev nD => places (F := F) c) (fun c => tokens (F := F) c)).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ share₀ m ρ c) : sProp 𝕄)
    ⊢ |={Set.univ}=> bigSep Finset.univ (ghost m ρ) :=
  ((bigSep_mono fun c _ => core_open m ρ c).trans (bigSep_fupd _ _)).trans (BI.fupd_mono (share_out m ρ))

/-! ## The credits of the launch -/

theorem bar_inj {a b : Dev nD} : (barCell a = barCell b) ↔ (a = b) :=
  ⟨fun h => congrArg (fun g : GSem nD τ sig => g.1.1) h, fun h => h ▸ rfl⟩
theorem recv_inj {a b : Dev nD} {r s : Fin 15} : (recvCell a r = recvCell b s) ↔ (a = b ∧ r = s) := by
  refine ⟨fun h => ⟨congrArg (fun g : GSem nD τ sig => g.1.1) h, ?_⟩, fun h => by rw [h.1, h.2]⟩
  have h2 : csem (iRecv r) = csem (iRecv s) := congrArg Prod.snd h
  have h3 := csem_injective h2
  simpa using h3
theorem turn_iff (c d : Dev nD) (r : Fin 15) : (c = nb d r) ↔ (d = pb c r) :=
  ⟨fun h => by rw [h, pb_nb], fun h => by rw [h, nb_pb]⟩
theorem all_from_zero : Finset.univ.filter (fun r : Fin 15 => 0 ≤ r.val) = Finset.univ := Finset.filter_true_of_mem fun _ _ => Nat.zero_le _

theorem owed_bar (d c : Dev nD) : O₀ d (barCell c) () = ∑ r : Fin 15, if d = pb c r then 1 else 0 := by
  unfold O₀ owedR owedB
  rw [Pi.add_apply, Finsupp.add_apply, sum_apply, sum_apply, all_from_zero,
    Finset.sum_eq_zero (fun r _ => by rw [tallyAt_ne_cell (fun h => by cases (congrArg Prod.snd h))]; rfl), Nat.zero_add]
  refine Finset.sum_congr rfl fun r _ => ?_
  rw [tallyAt_apply]
  refine if_congr ?_ rfl rfl
  rw [bar_inj, turn_iff]; exact and_iff_left rfl
theorem owed_recv (d c : Dev nD) (r : Fin 15) : O₀ d (recvCell c r) () = if d = pb c r then NX else 0 := by
  unfold O₀ owedR owedB
  rw [Pi.add_apply, Finsupp.add_apply, sum_apply, sum_apply, all_from_zero,
    Finset.sum_eq_zero (f := fun r' : Fin 15 => (tallyAt (barCell (nb d r')) () 1 : CellTallies nD τ sig Unit) (recvCell c r) ())
      (fun r _ => by rw [tallyAt_ne_cell (fun h => by cases (congrArg Prod.snd h))]; rfl), Nat.add_zero,
    Finset.sum_eq_single r (fun s _ hs => by rw [tallyAt_ne_cell (fun h => hs (recv_inj.mp h).2.symm)]; rfl) (fun h => absurd (Finset.mem_univ r) h),
    tallyAt_apply]
  refine if_congr ?_ rfl rfl
  rw [recv_inj, turn_iff]; exact ⟨fun h => h.1.1, fun h => ⟨⟨h, rfl⟩, rfl⟩⟩

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun r _ => Finset.sum_ite_eq' Finset.univ (pb c r) fun _ => 1]
  simp
theorem launch_recv (c : Dev nD) (r : Fin 15) :
    tallyOn (recvCell c r) (launchCredit (Pipeline.owing O₀) 0 (recvCell c r)) = (tallyAt (recvCell c r) () NX : CellTallies nD τ sig Unit) := by
  unfold tallyAt; refine congrArg _ (Finsupp.ext fun u => ?_); cases u
  rw [Pipeline.launchCredit_owing, Finsupp.single_eq_same, Finset.sum_congr rfl fun d _ => owed_recv d c r, Finset.sum_ite_eq' Finset.univ (pb c r) fun _ => NX,
    if_pos (Finset.mem_univ _)]

def recvLoc : Fin 15 ↪ SemLoc sig := ⟨fun r => .dma (recvS r), fun r s h => (recv_inj (a := (0 : Dev nD)) (b := (0 : Dev nD)) |>.mp (congrArg (fun x : SemLoc sig => ((((0 : Dev nD) : Thread nD τ), x) : GSem nD τ sig)) h)).2⟩
theorem recv_among : Finset.univ.map recvLoc ⊆ Finset.univ.erase (SemLoc.reg barS : SemLoc sig) := by
  intro x hx
  obtain ⟨r, -, rfl⟩ := Finset.mem_map.mp hx
  exact Finset.mem_erase.mpr ⟨(fun h => by cases h), Finset.mem_univ _⟩

theorem credits_of (c : Dev nD) : (Pipeline.launchCred O₀ c : sProp 𝕄) ⊢ credits (F := F) c := by
  unfold Pipeline.launchCred credits
  rw [bigSep_univ_at _ (SemLoc.reg barS), launch_bar]
  refine sep_mono_right ?_
  refine BIBase.Entails.trans (BI.bigSep_subset recv_among) ?_
  rw [bigSep_map]
  exact Entails.of_eq (bigSep_congr fun r _ => congrArg cred (launch_recv c r))

/-! ## The side conditions of the launch theorem -/

theorem w_rest (c : Dev nD) :
    (Pipeline.unscopedRestP Pipeline.Prefetch.none cfg0.spec c (fun b => m ((c : Thread nD τ).loc b)) : sProp 𝕄) = wWhole m ρ c := by
  unfold Pipeline.unscopedRestP
  rw [bigSep_eq_bigSepL_of_eq [main_arg1] (by decide) (by decide)]; rfl

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m ρ c)
      ⊢ |={Set.univ}=> iprop(start m ρ c ∗ emp) := by
  rw [w_rest m ρ c]
  iintro ⟨Hw, Hlev, Hcr, -, HG⟩
  ihave Hc := (credits_of (F := F) c) $$ Hcr
  imodintro
  unfold start
  isplitl
  · isplitl [HG]; · iexact HG
    isplitl [Hlev]; · iexact Hlev
    isplitl [Hc] <;> iassumption
  · iempintro

theorem first_of (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = inv m ρ c 0 from rfl, inv_zero m ρ c 0 rfl, scopedRest0_eq]
  unfold scratches
  iintro ⟨Hs, -, Hr⟩
  isplitl [Hs] <;> iassumption

/-- What a device still holds after the run, beside its arrays: the barrier's counter at zero and `w` as it was. -/
def over (c : Dev nD) : sProp 𝕄 := iprop(unscopedSems0 c ∗ wWhole m ρ c)

theorem last_of (c : Dev nD) :
    (dats m ρ 0 c).Φ (Fin.last cfg0.N) ⊢ iprop(over m ρ c ∗ Pipeline.ownSems0 osem c ∗ Pipeline.scopedRest cfg0.spec c) := by
  rw [show (dats m ρ 0 c).Φ (Fin.last cfg0.N) = inv m ρ c cfg0.N from rfl, inv_end m ρ c cfg0.N N_0, scopedRest0_eq, own_sems]
  unfold finish over scratches
  rw [bar_sem]
  iintro ⟨HB, HO, Hw, Hs⟩
  isplitl [HB Hw]
  · isplitl [HB] <;> iassumption
  isplitl [HO] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

theorem w_read (c : Dev nD) (s' : Phys nD τ sig (Elt F)) :
    iprop(wWhole m ρ c ∗ SI s') ⊢ (⌜s'.mem.mem ((c : Thread nD τ).loc main_arg1) = m ((c : Thread nD τ).loc main_arg1)⌝ : sProp 𝕄) := by
  unfold wWhole
  iintro ⟨Hw, HSI⟩
  icombine HSI Hw gives %h
  ipureintro
  exact Buf.eq_of_forall_mem_univ h

theorem over_read (c : Dev nD) (s' : Phys nD τ sig (Elt F)) :
    iprop(over m ρ c ∗ SI s') ⊢ |={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') := by
  unfold over
  iintro ⟨⟨Hu, Hw⟩, HSI⟩
  ihave %hw := (w_read m ρ c s') $$ [Hw HSI]
  · isplitl [Hw] <;> iassumption
  imod (Pipeline.unscopedSems0_read (X := unscopedSems0 c) (c := c) fupd_intro s') $$ [Hu HSI] with ⟨%hu, HSI⟩
  · isplitl [Hu] <;> iassumption
  imodintro
  isplitr; · ipureintro; exact ⟨hu, hw⟩
  iexact HSI

/-! ## The run -/

/-- What an array holds at the end: its launch contents with every block the pipeline wrote back. -/
def finalA (c : Dev nD) (w : Fin cfg0.W) : Buf (Elt F) ((cfg0.win w).arr.view.loc (c : Thread nD τ)) := (dats m ρ 0 c).arrAt w cfg0.N

set_option maxRecDepth 8000 in
/-- From any memory with every counter zero, every weakly fair execution on the sixteen devices ends, with every array of
    every device at its final contents, `w` unchanged and every counter zero. -/
theorem run_main : θ_run defs (onTc (τ := τ) (main (F := F))) (s₀ m ρ) (fun r =>
    (∀ c : Dev nD, (∀ w : Fin cfg0.W, r.2.mem ((cfg0.win w).arr.view.loc (c : Thread nD τ)) = finalA m ρ c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m ρ) () cellOf_inj (0 : Fin 1)
    winFacts0.to₀ own_sem_facts (Pipeline.PreFacts.none _) EP defs₀ 𝒱₀ m ρ main
    (hmain := fun _ => rfl)
    (hbody := fun c => body_obligation m ρ c) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := share₀ m ρ) (G' := ghost m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := over m ρ) (Z := fun _ => iprop(emp))
    (hX := start_of m ρ) (hin := first_of m ρ) (hout := last_of m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, -, HSI⟩
      iapply (over_read m ρ c s')
      isplitl [Hu] <;> iassumption)
    (hQ := fun _ h hs => ⟨fun c => ⟨(h c).1, (h c).2.2.2⟩, sem_eq_zero hs fun c => (h c).2.2.1⟩)

end Cert.KernelIdeal.Hand

end
-- ==== Proof.Ideal.Value.lean ====
/-
What the ideal kernel's result array ends holding, in closed form: at row `r` and column `n` of device `c`, the gated,
scaled product of row `256 c + r` of `X` with column `n` of `W`.
-/
module

public import proofs.«01_k».proof.Proof.Ideal.Launch
public import Idealize.ShloMosaic.Lib.Pipeline.ValueKit
public import Idealize.ShloMosaic.Lib.Pipeline.Covers
public import Idealize.ShloMosaic.Lib.Pointwise
public import Idealize.ShloMosaic.Lib.Layout

@[expose] public section

noncomputable section

namespace Cert.KernelIdeal.Hand

open Cert.KernelIdeal Cert.KernelIdeal.Gen

open Idealize.ShloMosaic
open Idealize.ShloMosaic.TcCoe
open Idealize.ShloMosaic.Pipeline (Dat Cfg Window)

section Any

variable {F : FTy → Type} [FloatOps F]
variable (m : (ℓ : Loc nD τ sig) → Buf (Elt F) ℓ) (ρ : Dev nD → PrngReg)

/-- The result array of device `c` by column blocks: column `n` is column `n mod 512` of what point `n / 512` writes. -/
def outAll (c : Dev nD) : Buf (Elt F) ((c : Thread nD τ).loc main_v1) := fun (i : S256x8192.Idx) =>
  outAt m ρ c ⟨(i 1).val / 512, Nat.div_lt_of_lt_mul (i 1).isLt⟩
    (Shape.pair (d := ![256, 512]) ⟨(i 0).val, (i 0).isLt⟩ ⟨(i 1).val % 512, Nat.mod_lt _ (by decide)⟩)

/-- The result window's block at point `t` is column block `t`. -/
theorem idx_out (t : Fin grid0.N) : win0_3.index t 0 = 0 ∧ win0_3.index t 1 = t.val := by
  revert t; decide +kernel

/-- After the run the result array holds the sixteen column blocks the points wrote. -/
theorem final_out (c : Dev nD) : finalA m ρ c (3 : Fin 4) = outAll m ρ c := by
  refine (dats m ρ 0 c).arrAt_eq_of_covers (3 : Fin 4) _ (by decide +kernel) fun t hf y => ?_
  blk_simp
  have e0 : ((win0_3.rect t).emb y 0 : ℕ) = (y 0 : ℕ) := win0_3.rect_emb_val_of_index_zero t 0 (idx_out t).1 y
  have e1 : ((win0_3.rect t).emb y 1 : ℕ) = t.val * 512 + (y 1 : ℕ) := by
    have h := win0_3.rect_emb_val t y 1
    rw [(idx_out t).2] at h
    exact h
  have h1 : (y 1 : ℕ) < 512 := (y 1).isLt
  refine congrArg₂ (fun b (k : S256x512.Idx) => outAt m ρ c b k) (Fin.ext ?_) (Shape.idx_ext₂ ?_ ?_)
  · show t.val = ((win0_3.rect t).emb y 1 : ℕ) / 512
    omega
  · show (y 0 : ℕ) = ((win0_3.rect t).emb y 0 : ℕ)
    omega
  · show (y 1 : ℕ) = ((win0_3.rect t).emb y 1 : ℕ) % 512
    omega

end Any

variable (m : (ℓ : Loc nD τ sig) → Buf (Elt Ideal) ℓ) (ρ : Dev nD → PrngReg)

/-- One element of the result, from a row of the left matrix, a column of the right one and the two scales. -/
def gated (x w : Fin 4096 → EReal) (sx sy : EReal) : EReal :=
  ((∑ k : Fin 4096, x k * w k) * (sx * sy)) * Ideal.logistic (min (Ideal.ofBits .f32 0x42700000#32) (max (Ideal.ofBits .f32 0xC2700000#32) ((∑ k : Fin 4096, x k * w k) * (sx * sy))))

/-- What a point computes at an element: the gated product of a row of the gathered matrix and a column of the block of `w`. -/
theorem pay3_apply (v14 : Vec Ideal S1x4096x512 .f32) (v21 : Vec Ideal S256x4096 .fp8e5m2) (a b : Elt Ideal .f32) (j : S256x512.Idx) :
    k0_pay3 v14 v21 a b j = gated (fun k => v21 (ix2 (j 0) k)) (fun k => v14 (ix3 0 k (j 1))) a b := by
  pointwise [k0_pay3, gated]

/-- The cast block of a device is its block of `X`: over the extended reals the cast changes nothing. -/
theorem xq_apply (c : Dev nD) (i : S4096x256.Idx) : xq m ρ c i = m ((c : Thread nD τ).loc main_arg0) i := by
  unfold xq xstg s₀
  pointwise [k0_pay1]
  blk_simp
  exact congrArg (m ((c : Thread nD τ).loc main_arg0)) (Shape.idx_ext₂
    (win0_0.rect_emb_val_of_index_zero t0_0 0 (by decide +kernel) i) (win0_0.rect_emb_val_of_index_zero t0_0 1 (by decide +kernel) i))

/-- An array of one element has one index. -/
theorem idx_one (i j : S1.Idx) : i = j := funext fun a => by
  fin_cases a
  have hi : (i 0 : ℕ) < 1 := (i 0).isLt
  have hj : (j 0 : ℕ) < 1 := (j 0).isLt
  exact Fin.ext (by show (i 0 : ℕ) = (j 0 : ℕ); omega)

/-- The two scales as staged are the two arguments' elements. -/
theorem sx_apply (c : Dev nD) : sxstg m ρ c zero1 = m ((c : Thread nD τ).loc main_arg2) (ix1 0) := by
  unfold sxstg s₀
  blk_simp
  exact congrArg (m ((c : Thread nD τ).loc main_arg2)) (idx_one _ _)
theorem sy_apply (c : Dev nD) : systg m ρ c zero1 = m ((c : Thread nD τ).loc main_arg3) (ix1 0) := by
  unfold systg s₀
  blk_simp
  exact congrArg (m ((c : Thread nD τ).loc main_arg3)) (idx_one _ _)

/-- THE RESULT. When the devices hold the column blocks of `X` and each the whole of `W` and the two scales, element
    `(r, n)` of device `c`'s result is the gated product of row `256 c + r` of `X` and column `n` of `W`. -/
theorem out_apply (X : (⟨2, ![4096, 4096]⟩ : Shape).Idx → EReal) (hX : ∀ d : Dev nD, m ((d : Thread nD τ).loc main_arg0) = Layout.block ⟨2, ![4096, 256]⟩ ⟨2, ![4096, 4096]⟩ 1 16 d X)
    (c : Dev nD) (i : S256x8192.Idx) (r : Fin 4096) (hr : r.val = 256 * c.val + (i 0).val) :
    outAll m ρ c i = gated (fun k => X (ix2 r k)) (fun k => m ((c : Thread nD τ).loc main_arg1) (ix2 k (i 1)))
      (m ((c : Thread nD τ).loc main_arg2) (ix1 0)) (m ((c : Thread nD τ).loc main_arg3) (ix1 0)) := by
  unfold outAll outAt
  rw [pay3_apply, sx_apply, sy_apply]
  congr 1
  · funext k
    show xq m ρ _ _ = _
    rw [xq_apply, hX]
    refine congrArg X (Shape.idx_ext₂ ?_ ?_)
    · exact hr.symm
    · show k.val / 256 * 256 + k.val % 256 = k.val
      omega
  · funext k
    refine congrArg (m ((c : Thread nD τ).loc main_arg1)) (Shape.idx_ext₂ rfl ?_)
    show 512 * ((i 1 : ℕ) / 512) + (i 1 : ℕ) % 512 = (i 1 : ℕ)
    omega

end Cert.KernelIdeal.Hand

end
-- ==== Proof.Equation.lean ====
/-
The reference's result in the closed form of the kernel's: dividing by one more than an exponential is multiplying by the
logistic, over all of the extended reals.
-/
module

public import proofs.«01_k».proof.Proof.Ideal.Value
public import proofs.«01_k».proof.Proof.Gen.ReferenceIdeal.Run

@[expose] public section

noncomputable section

namespace Cert.Equation

open Idealize.ShloMosaic

/-- An exponential of an extended real is not negative, so one more than it is not zero. -/
theorem one_add_exp_ne_zero (x : EReal) : (1 : EReal) + Ideal.exp x ≠ 0 := by
  have h : 0 ≤ Ideal.exp x := by
    induction x with
    | bot => exact le_refl _
    | top => exact le_top
    | coe r => exact EReal.coe_nonneg.2 (Real.exp_nonneg r)
  exact ne_of_gt (lt_of_lt_of_le zero_lt_one (le_add_of_nonneg_right h))

/-- Dividing by `1 + exp (-c)` is multiplying by the logistic of `c`. -/
theorem div_eq_mul_logistic (y c : EReal) : Ideal.div y (1 + Ideal.exp (-c)) = y * Ideal.logistic c := by
  unfold Ideal.logistic Ideal.div
  rw [if_neg (one_add_exp_ne_zero _), if_neg (one_add_exp_ne_zero _), one_mul]

open Cert.ReferenceIdeal Cert.ReferenceIdeal.Gen in
/-- An element of the reference's result is the gated product of a row of `X` and a column of `W`. -/
theorem ref_apply (X : FVec Ideal S4096x4096 .f32) (W : FVec Ideal S4096x8192 .f32) (a b : FVec Ideal S1 .f32) (j : S4096x8192.Idx) :
    Host.divf (mulf (Host.dotGeneral dot_S4096x4096_S4096x8192_S4096x8192_1_0_0_1_n_n none X W) (broadcastInDim S4096x8192 ![0, 1] bcast_S1x1_S4096x8192_0_1 (broadcastInDim S1x1 ![1] bcast_S1_S1x1_1 (mulf a b)))) (addf (broadcastInDim S4096x8192 ![] bcast_S_S4096x8192 (constant S_ .f32 0x3F800000#32)) (Host.exp (Host.negf (minimumf (broadcastInDim S4096x8192 ![] bcast_S_S4096x8192 (id (constant S_ .f32 0x42700000#32))) (maximumf (broadcastInDim S4096x8192 ![] bcast_S_S4096x8192 (id (constant S_ .f32 0xC2700000#32))) (mulf (Host.dotGeneral dot_S4096x4096_S4096x8192_S4096x8192_1_0_0_1_n_n none X W) (broadcastInDim S4096x8192 ![0, 1] bcast_S1x1_S4096x8192_0_1 (broadcastInDim S1x1 ![1] bcast_S1_S1x1_1 (mulf a b))))))))) j
      = Cert.KernelIdeal.Hand.gated (fun k => X (ix2 (j 0) k)) (fun k => W (ix2 k (j 1))) (a (ix1 0)) (b (ix1 0)) := by
  pointwise [Cert.KernelIdeal.Hand.gated]
  exact div_eq_mul_logistic _ _

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Words.Launch
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel on words ends with its arguments as they were and every counter at zero. -/
theorem frame_words : Cert.quiescent_Kernel (hKernel := Cert.Kernel.Gen.facts) := fun m g _ => by
  refine θ_run_mono (Cert.Kernel.Hand.run_main m g) fun r h => ⟨fun c => ?_, h.2⟩
  obtain ⟨hw, h1⟩ := h.1 c
  exact ⟨(hw (0 : Fin 4)).trans ((Cert.Kernel.Hand.dats m g 0 c).arrAt_in (0 : Fin 4) rfl _), h1,
    (hw (1 : Fin 4)).trans ((Cert.Kernel.Hand.dats m g 0 c).arrAt_in (1 : Fin 4) rfl _),
    (hw (2 : Fin 4)).trans ((Cert.Kernel.Hand.dats m g 0 c).arrAt_in (2 : Fin 4) rfl _)⟩

/-- The kernel over the extended reals: the result array in closed form, the arguments as they were, every counter at zero. -/
theorem run_ideal (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r =>
      (∀ c : Dev Cert.KernelIdeal.nD,
        r.2.mem ((c.tc : Thread Cert.KernelIdeal.nD Cert.KernelIdeal.τ).loc Cert.KernelIdeal.main_v1) = Cert.KernelIdeal.Hand.outAll m g c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) := by
  refine θ_run_mono (Cert.KernelIdeal.Hand.run_main m g) fun r h => ⟨fun c => ?_, h.2⟩
  obtain ⟨hw, h1⟩ := h.1 c
  exact ⟨(hw (3 : Fin 4)).trans (Cert.KernelIdeal.Hand.final_out m g c),
    (hw (0 : Fin 4)).trans ((Cert.KernelIdeal.Hand.dats m g 0 c).arrAt_in (0 : Fin 4) rfl _), h1,
    (hw (1 : Fin 4)).trans ((Cert.KernelIdeal.Hand.dats m g 0 c).arrAt_in (1 : Fin 4) rfl _),
    (hw (2 : Fin 4)).trans ((Cert.KernelIdeal.Hand.dats m g 0 c).arrAt_in (2 : Fin 4) rfl _)⟩

/-- The kernel over the extended reals ends with its arguments as they were and every counter at zero. -/
theorem frame_ideal : Cert.quiescent_KernelIdeal (hKernelIdeal := Cert.KernelIdeal.Gen.facts) := fun m g _ =>
  θ_run_mono (run_ideal m g) fun _ h => ⟨fun c => (h.1 c).2, h.2⟩

/-- The reference ends with its arguments as they were; it has no semaphores. -/
theorem frame_reference : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems rfl r.2⟩

/-- Each device's result is its row block of the reference's. -/
theorem same_result : Cert.algebraic_KernelIdeal_ReferenceIdeal (hKernelIdeal := Cert.KernelIdeal.Gen.facts) (hReferenceIdeal := Cert.ReferenceIdeal.Gen.facts) :=
  fun m g m' g' _ hin => by
  refine ⟨_, θ_run_mono (run_ideal m g) fun r h c => ⟨(h.1 c).1.trans ?_, (h.1 c).2⟩, θ_run_mono (Cert.ReferenceIdeal.Value.run m' g') fun r h => h 0⟩
  funext i
  obtain ⟨-, h1, h2, h3⟩ := hin c
  have hc : c.val < 16 := c.isLt
  have hi : (i 0 : ℕ) < 256 := (i 0).isLt
  refine (Cert.KernelIdeal.Hand.out_apply m g _ (fun d => (hin d).1) c i ⟨256 * c.val + (i 0 : ℕ), by omega⟩ rfl).trans ?_
  rw [h1, h2, h3, Layout.block_apply]
  refine Eq.trans ?_ (Cert.Equation.ref_apply _ _ _ _ _).symm
  have e0 : (⟨256 * c.val + (i 0 : ℕ), by omega⟩ : Fin 4096) = (Layout.Tiles.idx (S := ⟨2, ![256, 8192]⟩) (T := ⟨2, ![4096, 8192]⟩) (a := 0) (k := 16) (by decide) c i) 0 :=
    Fin.ext (by show 256 * c.val + (i 0 : ℕ) = c.val * 256 + (i 0 : ℕ); omega)
  rw [e0]
  rfl

theorem claim : Cert.Claim :=
  ⟨Cert.Kernel.Gen.facts, Cert.KernelIdeal.Gen.facts, Cert.ReferenceIdeal.Gen.facts, frame_words, frame_ideal, frame_reference, trivial, same_result⟩

end Cert.Proof

end
